-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 1]⟩ ⟨2, ![1024, 1]⟩ (Layout.meshBlock [2, 2] ![[0], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![1024, 512]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v50) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x1 : Shape := ⟨2, ![512, 1]⟩
abbrev S2x512x1024 : Shape := ⟨3, ![2, 512, 1024]⟩
abbrev S2x1024x512 : Shape := ⟨3, ![2, 1024, 512]⟩
abbrev S256x1 : Shape := ⟨2, ![256, 1]⟩
abbrev S256x512 : Shape := ⟨2, ![256, 512]⟩
abbrev S3 : Shape := ⟨1, ![3]⟩
abbrev S7 : Shape := ⟨1, ![7]⟩
abbrev S1 : Shape := ⟨1, ![1]⟩
abbrev S_ : Shape := ⟨0, ![]⟩
abbrev S128x512 : Shape := ⟨2, ![128, 512]⟩
abbrev S1x512x1024 : Shape := ⟨3, ![1, 512, 1024]⟩
abbrev S512x1024 : Shape := ⟨2, ![512, 1024]⟩
abbrev S256x1024 : Shape := ⟨2, ![256, 1024]⟩
abbrev S1x1024x512 : Shape := ⟨3, ![1, 1024, 512]⟩
abbrev S1024x512 : Shape := ⟨2, ![1024, 512]⟩
abbrev S128x1 : Shape := ⟨2, ![128, 1]⟩
abbrev S128x1024 : Shape := ⟨2, ![128, 1024]⟩

abbrev nBuf : Space → Nat
  | .hbm => 5
  | .vmem => 13
  | .smem => 0
  | _ => 0

abbrev bufTy : (tb : Table) → Fin (tcTables nBuf tb) → BufTy
  | .hbm, ⟨0, _⟩ => ⟨S512x512, .f32⟩
  | .hbm, ⟨1, _⟩ => ⟨S512x1, .i32⟩
  | .hbm, ⟨2, _⟩ => ⟨S2x512x1024, .f32⟩
  | .hbm, ⟨3, _⟩ => ⟨S2x1024x512, .f32⟩
  | .hbm, ⟨4, _⟩ => ⟨S512x512, .bf16⟩
  | .local _ .vmem, ⟨0, _⟩ => ⟨S512x1, .i32⟩
  | .local _ .vmem, ⟨1, _⟩ => ⟨S512x512, .bf16⟩
  | .local _ .vmem, ⟨2, _⟩ => ⟨S256x1, .i32⟩
  | .local _ .vmem, ⟨3, _⟩ => ⟨S256x512, .bf16⟩
  | .local _ .vmem, ⟨4, _⟩ => ⟨S256x1, .i32⟩
  | .local _ .vmem, ⟨5, _⟩ => ⟨S256x512, .bf16⟩
  | .local _ .vmem, ⟨6, _⟩ => ⟨S512x512, .bf16⟩
  | .local _ .vmem, ⟨7, _⟩ => ⟨S512x512, .f32⟩
  | .local _ .vmem, ⟨8, _⟩ => ⟨S256x512, .bf16⟩
  | .local _ .vmem, ⟨9, _⟩ => ⟨S2x512x1024, .f32⟩
  | .local _ .vmem, ⟨10, _⟩ => ⟨S2x1024x512, .f32⟩
  | .local _ .vmem, ⟨11, _⟩ => ⟨S2x512x1024, .bf16⟩
  | .local _ .vmem, ⟨12, _⟩ => ⟨S2x1024x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_12 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_11 : BitVec 32 := 2#32
  let v20 : BitVec 32 := Scalar.muli v6 c2_i32_11
  let v21 : BitVec 32 := Scalar.addi c0_i32_12 v20
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_13 : BitVec 32 := 1#32
  let v22 : BitVec 32 := Scalar.muli v5 c1_i32_13
  let v23 : BitVec 32 := Scalar.addi v21 v22
  v23.toNat
def k0_dev2 (d0 : Dev nD) : Nat :=
  let c0_i32_16 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_15 : BitVec 32 := 2#32
  let v24 : BitVec 32 := Scalar.muli v2 c2_i32_15
  let v25 : BitVec 32 := Scalar.addi c0_i32_16 v24
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_17 : BitVec 32 := 1#32
  let v26 : BitVec 32 := Scalar.muli v7 c1_i32_17
  let v27 : BitVec 32 := Scalar.addi v25 v26
  v27.toNat
def k0_dev3 (d0 : Dev nD) : Nat :=
  let c0_i32_20 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_19 : BitVec 32 := 2#32
  let v28 : BitVec 32 := Scalar.muli v8 c2_i32_19
  let v29 : BitVec 32 := Scalar.addi c0_i32_20 v28
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_21 : BitVec 32 := 1#32
  let v30 : BitVec 32 := Scalar.muli v9 c1_i32_21
  let v31 : BitVec 32 := Scalar.addi v29 v30
  v31.toNat
def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v10 : BitVec 32 := Scalar.muli v5 c256_i32
  let v32 : Index := Scalar.indexCast v10
  let c0 : Index := 0#32
  ![v32.toNat, 0]
def k0_dev4 (d0 : Dev nD) : Nat :=
  let c0_i32_27 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_26 : BitVec 32 := 2#32
  let v38 : BitVec 32 := Scalar.muli v6 c2_i32_26
  let v39 : BitVec 32 := Scalar.addi c0_i32_27 v38
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_28 : BitVec 32 := 1#32
  let v40 : BitVec 32 := Scalar.muli v5 c1_i32_28
  let v41 : BitVec 32 := Scalar.addi v39 v40
  v41.toNat
def k0_off2 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v10 : BitVec 32 := Scalar.muli v5 c256_i32
  let v48 : Index := Scalar.indexCast v10
  let c0_30 : Index := 0#32
  ![v48.toNat, 0]
def k0_dev5 (d0 : Dev nD) : Nat :=
  let c0_i32_36 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_35 : BitVec 32 := 2#32
  let v54 : BitVec 32 := Scalar.muli v6 c2_i32_35
  let v55 : BitVec 32 := Scalar.addi c0_i32_36 v54
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v56 : BitVec 32 := Scalar.muli v5 c1_i32_37
  let v57 : BitVec 32 := Scalar.addi v55 v56
  v57.toNat
def k0_dev6 (d0 : Dev nD) : Nat :=
  let c0_i32_45 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_44 : BitVec 32 := 2#32
  let v64 : BitVec 32 := Scalar.muli v6 c2_i32_44
  let v65 : BitVec 32 := Scalar.addi c0_i32_45 v64
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_46 : BitVec 32 := 1#32
  let v66 : BitVec 32 := Scalar.muli v5 c1_i32_46
  let v67 : BitVec 32 := Scalar.addi v65 v66
  v67.toNat
def k0_off3 (d0 : Dev nD) (c0_i32_138 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v10 : BitVec 32 := Scalar.muli v5 c256_i32
  let v182 : BitVec 32 := Scalar.addi v10 c0_i32_138
  let c0_i32_144 : BitVec 32 := 0#32
  ![v182.toNat, 0]
def k0_dev7 (d0 : Dev nD) : Nat :=
  let c0_i32_142 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_141 : BitVec 32 := 2#32
  let v183 : BitVec 32 := Scalar.muli v6 c2_i32_141
  let v184 : BitVec 32 := Scalar.addi c0_i32_142 v183
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_143 : BitVec 32 := 1#32
  let v185 : BitVec 32 := Scalar.muli v5 c1_i32_143
  let v186 : BitVec 32 := Scalar.addi v184 v185
  v186.toNat
def k0_dev8 (d0 : Dev nD) : Nat :=
  let c0_i32_149 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_148 : BitVec 32 := 2#32
  let v193 : BitVec 32 := Scalar.muli v8 c2_i32_148
  let v194 : BitVec 32 := Scalar.addi c0_i32_149 v193
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_150 : BitVec 32 := 1#32
  let v195 : BitVec 32 := Scalar.muli v9 c1_i32_150
  let v196 : BitVec 32 := Scalar.addi v194 v195
  v196.toNat
def k0_dev9 (d0 : Dev nD) : Nat :=
  let c0_i32_197 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_196 : BitVec 32 := 2#32
  let v254 : BitVec 32 := Scalar.muli v6 c2_i32_196
  let v255 : BitVec 32 := Scalar.addi c0_i32_197 v254
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_198 : BitVec 32 := 1#32
  let v256 : BitVec 32 := Scalar.muli v5 c1_i32_198
  let v257 : BitVec 32 := Scalar.addi v255 v256
  v257.toNat
def k0_dev10 (d0 : Dev nD) : Nat :=
  let c0_i32_204 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_203 : BitVec 32 := 2#32
  let v264 : BitVec 32 := Scalar.muli v8 c2_i32_203
  let v265 : BitVec 32 := Scalar.addi c0_i32_204 v264
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_205 : BitVec 32 := 1#32
  let v266 : BitVec 32 := Scalar.muli v9 c1_i32_205
  let v267 : BitVec 32 := Scalar.addi v265 v266
  v267.toNat
def k0_off4 (d0 : Dev nD) : Fin 2 → Nat :=
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.subi c1_i32_6 v5
  let c256_i32_7 : BitVec 32 := 256#32
  let v12 : BitVec 32 := Scalar.muli v11 c256_i32_7
  let v274 : Index := Scalar.indexCast v12
  let c0_209 : Index := 0#32
  ![v274.toNat, 0]
def k0_off5 (d0 : Dev nD) : Fin 2 → Nat :=
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.subi c1_i32_6 v5
  let c256_i32_7 : BitVec 32 := 256#32
  let v12 : BitVec 32 := Scalar.muli v11 c256_i32_7
  let v277 : Index := Scalar.indexCast v12
  let c0_210 : Index := 0#32
  ![v277.toNat, 0]
def k0_off6 (d0 : Dev nD) (c0_i32_243 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v10 : BitVec 32 := Scalar.muli v5 c256_i32
  let v323 : BitVec 32 := Scalar.addi v10 c0_i32_243
  let v325 : Index := Scalar.indexCast v323
  let c0_244 : Index := 0#32
  ![v325.toNat, 0]
def k0_off7 (d0 : Dev nD) (c0_i32_265 : BitVec 32) : Fin 2 → Nat :=
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.subi c1_i32_6 v5
  let c256_i32_7 : BitVec 32 := 256#32
  let v12 : BitVec 32 := Scalar.muli v11 c256_i32_7
  let v357 : BitVec 32 := Scalar.addi v12 c0_i32_265
  let v359 : Index := Scalar.indexCast v357
  let c0_266 : Index := 0#32
  ![v359.toNat, 0]
abbrev stage0_0 : Fin 1 → Memref sig .tc .vmem S512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x512 : Shape := ⟨2, ![1024, 512]⟩
abbrev S1024x1 : Shape := ⟨2, ![1024, 1]⟩
abbrev S4x512x1024 : Shape := ⟨3, ![4, 512, 1024]⟩
abbrev S4x1024x512 : Shape := ⟨3, ![4, 1024, 512]⟩
abbrev S1024 : Shape := ⟨1, ![1024]⟩
abbrev S_ : Shape := ⟨0, ![]⟩
abbrev S1x512x1024 : Shape := ⟨3, ![1, 512, 1024]⟩
abbrev S512x1024 : Shape := ⟨2, ![512, 1024]⟩
abbrev S1024x1024 : Shape := ⟨2, ![1024, 1024]⟩
abbrev S1x1024x512 : Shape := ⟨3, ![1, 1024, 512]⟩

abbrev nBuf : Space → Nat
  | .hbm => 68
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x1, .i32⟩
  | .hbm, ⟨2, _⟩ => ⟨S4x512x1024, .f32⟩
  | .hbm, ⟨3, _⟩ => ⟨S4x1024x512, .f32⟩
  | .hbm, ⟨4, _⟩ => ⟨S1024, .i32⟩
  | .hbm, ⟨5, _⟩ => ⟨S_, .f32⟩
  | .hbm, ⟨6, _⟩ => ⟨S1024x512, .f32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S1x512x1024, .f32⟩
  | .hbm, ⟨11, _⟩ => ⟨S512x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1, .i1⟩
  | .hbm, ⟨17, _⟩ => ⟨S1x1024x512, .f32⟩
  | .hbm, ⟨18, _⟩ => ⟨S1024x512, .f32⟩
  | .hbm, ⟨19, _⟩ => ⟨S1024x512, .f32⟩
  | .hbm, ⟨20, _⟩ => ⟨S1024x512, .i1⟩
  | .hbm, ⟨21, _⟩ => ⟨S1024x512, .f32⟩
  | .hbm, ⟨22, _⟩ => ⟨S_, .i32⟩
  | .hbm, ⟨23, _⟩ => ⟨S1024, .i32⟩
  | .hbm, ⟨24, _⟩ => ⟨S1024, .i1⟩
  | .hbm, ⟨25, _⟩ => ⟨S1x512x1024, .f32⟩
  | .hbm, ⟨26, _⟩ => ⟨S512x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1, .i1⟩
  | .hbm, ⟨32, _⟩ => ⟨S1x1024x512, .f32⟩
  | .hbm, ⟨33, _⟩ => ⟨S1024x512, .f32⟩
  | .hbm, ⟨34, _⟩ => ⟨S1024x512, .f32⟩
  | .hbm, ⟨35, _⟩ => ⟨S1024x512, .i1⟩
  | .hbm, ⟨36, _⟩ => ⟨S1024x512, .f32⟩
  | .hbm, ⟨37, _⟩ => ⟨S_, .i32⟩
  | .hbm, ⟨38, _⟩ => ⟨S1024, .i32⟩
  | .hbm, ⟨39, _⟩ => ⟨S1024, .i1⟩
  | .hbm, ⟨40, _⟩ => ⟨S1x512x1024, .f32⟩
  | .hbm, ⟨41, _⟩ => ⟨S512x1024, .f32⟩
  | .hbm, ⟨42, _⟩ => ⟨S1024x1024, .f32⟩
  | .hbm, ⟨43, _⟩ => ⟨S_, .f32⟩
  | .hbm, ⟨44, _⟩ => ⟨S1024x1024, .f32⟩
  | .hbm, ⟨45, _⟩ => ⟨S1024x1024, .f32⟩
  | .hbm, ⟨46, _⟩ => ⟨S1024x1, .i1⟩
  | .hbm, ⟨47, _⟩ => ⟨S1x1024x512, .f32⟩
  | .hbm, ⟨48, _⟩ => ⟨S1024x512, .f32⟩
  | .hbm, ⟨49, _⟩ => ⟨S1024x512, .f32⟩
  | .hbm, ⟨50, _⟩ => ⟨S1024x512, .i1⟩
  | .hbm, ⟨51, _⟩ => ⟨S1024x512, .f32⟩
  | .hbm, ⟨52, _⟩ => ⟨S_, .i32⟩
  | .hbm, ⟨53, _⟩ => ⟨S1024, .i32⟩
  | .hbm, ⟨54, _⟩ => ⟨S1024, .i1⟩
  | .hbm, ⟨55, _⟩ => ⟨S1x512x1024, .f32⟩
  | .hbm, ⟨56, _⟩ => ⟨S512x1024, .f32⟩
  | .hbm, ⟨57, _⟩ => ⟨S1024x1024, .f32⟩
  | .hbm, ⟨58, _⟩ => ⟨S_, .f32⟩
  | .hbm, ⟨59, _⟩ => ⟨S1024x1024, .f32⟩
  | .hbm, ⟨60, _⟩ => ⟨S1024x1024, .f32⟩
  | .hbm, ⟨61, _⟩ => ⟨S1024x1, .i1⟩
  | .hbm, ⟨62, _⟩ => ⟨S1x1024x512, .f32⟩
  | .hbm, ⟨63, _⟩ => ⟨S1024x512, .f32⟩
  | .hbm, ⟨64, _⟩ => ⟨S1024x512, .f32⟩
  | .hbm, ⟨65, _⟩ => ⟨S1024x512, .i1⟩
  | .hbm, ⟨66, _⟩ => ⟨S1024x512, .f32⟩
  | .hbm, ⟨67, _⟩ => ⟨S1024x512, .bf16⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call1_v0 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call2_v0 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call3_v0 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Proof.Protocol.lean ====
/- The communication protocol of the kernel, written down before any run of it.

   Device `c = 2 x + y` of the 2 × 2 mesh talks to three others: `xn c` (the other x, same y), `yn c` (same x, the other
   y), `dg c` (both other). Every semaphore is used for one round:

   * the barrier of `c`: one unit each from `xn c`, `yn c`, `dg c`; `c` waits for all three. The unit of `xn c` hands
     over that device's landing buffers for the assignment rows and the x rows and the two blocks of its return buffer
     that `c` writes; the unit of `dg c` hands over the two blocks of its return buffer that `c` writes.
   * DMA 2, 3, 4: local copies of W1, W2 and x; the wait gets the filled buffer and the source back.
   * DMA 5 … 11: departures (x rows 0, x rows 1, assignment, results 0 and 1 to `xn c`, results 0 and 1 to `dg c`); the
     wait gets the lent source share back.
   * DMA 12 … 18: the arrivals of the same seven; the wait gets the window of the landing buffer holding the sender's
     rows. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.MemrefSat

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds and this protocol's, whose rounds have up to three contributors. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

variable (m : (ℓ : Loc nD τ sig) → Buf (Elt F) ℓ)

/-! ## The mesh -/

/-- The device with the other x coordinate. -/
def xn (c : Dev nD) : Dev nD := ![2, 3, 0, 1] c
/-- The device with the other y coordinate. -/
def yn (c : Dev nD) : Dev nD := ![1, 0, 3, 2] c
/-- The device with both coordinates other. -/
def dg (c : Dev nD) : Dev nD := ![3, 2, 1, 0] c

/-- Each of the three maps is its own inverse: the first, -/
theorem xn_xn (c : Dev nD) : xn (xn c) = c := by revert c; decide
/-- the second, -/
theorem yn_yn (c : Dev nD) : yn (yn c) = c := by revert c; decide
/-- the third. -/
theorem dg_dg (c : Dev nD) : dg (dg c) = c := by revert c; decide

/-- The three maps as permutations of the devices. -/
def xnE : Dev nD ≃ Dev nD := ⟨xn, xn, xn_xn, xn_xn⟩
def ynE : Dev nD ≃ Dev nD := ⟨yn, yn, yn_yn, yn_yn⟩
def dgE : Dev nD ≃ Dev nD := ⟨dg, dg, dg_dg, dg_dg⟩

/-- Who each device number the kernel computes names. -/
theorem dev1_eq : ∀ c : Dev nD, (⟨k0_dev1 c, k0_dev1_lt c⟩ : Dev nD) = xn c := by decide +kernel
/-- The second unit of the barrier goes to the device with the other y, -/
theorem dev2_eq : ∀ c : Dev nD, (⟨k0_dev2 c, k0_dev2_lt c⟩ : Dev nD) = yn c := by decide +kernel
/-- the third to the diagonal one; -/
theorem dev3_eq : ∀ c : Dev nD, (⟨k0_dev3 c, k0_dev3_lt c⟩ : Dev nD) = dg c := by decide +kernel
/-- the assignment rows, -/
theorem dev4_eq : ∀ c : Dev nD, (⟨k0_dev4 c, k0_dev4_lt c⟩ : Dev nD) = xn c := by decide +kernel
/-- the first x rows -/
theorem dev5_eq : ∀ c : Dev nD, (⟨k0_dev5 c, k0_dev5_lt c⟩ : Dev nD) = xn c := by decide +kernel
/-- and the second go to the device with the other x; -/
theorem dev6_eq : ∀ c : Dev nD, (⟨k0_dev6 c, k0_dev6_lt c⟩ : Dev nD) = xn c := by decide +kernel
/-- the first results go to it -/
theorem dev7_eq : ∀ c : Dev nD, (⟨k0_dev7 c, k0_dev7_lt c⟩ : Dev nD) = xn c := by decide +kernel
/-- and to the diagonal one, -/
theorem dev8_eq : ∀ c : Dev nD, (⟨k0_dev8 c, k0_dev8_lt c⟩ : Dev nD) = dg c := by decide +kernel
/-- and so do -/
theorem dev9_eq : ∀ c : Dev nD, (⟨k0_dev9 c, k0_dev9_lt c⟩ : Dev nD) = xn c := by decide +kernel
/-- the second. -/
theorem dev10_eq : ∀ c : Dev nD, (⟨k0_dev10 c, k0_dev10_lt c⟩ : Dev nD) = dg c := by decide +kernel

/-! ## Buffers, windows and semaphores -/

abbrev xHM : Memref sig .tc .hbm S512x512 .f32 := Memref.whole main_arg0
abbrev w1HM : Memref sig .tc .hbm S2x512x1024 .f32 := Memref.whole main_arg2
abbrev w2HM : Memref sig .tc .hbm S2x1024x512 .f32 := Memref.whole main_arg3
abbrev agM : Memref sig .tc .vmem S512x1 .i32 := Memref.whole cc0_stg0_0
abbrev oM : Memref sig .tc .vmem S512x512 .bf16 := Memref.whole cc0_stg1_0
abbrev asM : Memref sig .tc .vmem S256x1 .i32 := Memref.whole cc0_scratch0
abbrev xrM : Memref sig .tc .vmem S256x512 .bf16 := Memref.whole cc0_scratch1
abbrev arM : Memref sig .tc .vmem S256x1 .i32 := Memref.whole cc0_scratch2
abbrev csM : Memref sig .tc .vmem S256x512 .bf16 := Memref.whole cc0_scratch3
abbrev crM : Memref sig .tc .vmem S512x512 .bf16 := Memref.whole cc0_scratch4
abbrev xfM : Memref sig .tc .vmem S512x512 .f32 := Memref.whole cc0_scratch5
abbrev xbM : Memref sig .tc .vmem S256x512 .bf16 := Memref.whole cc0_scratch6
abbrev w1fM : Memref sig .tc .vmem S2x512x1024 .f32 := Memref.whole cc0_scratch7
abbrev w2fM : Memref sig .tc .vmem S2x1024x512 .f32 := Memref.whole cc0_scratch8
abbrev w1M : Memref sig .tc .vmem S2x512x1024 .bf16 := Memref.whole cc0_scratch9
abbrev w2M : Memref sig .tc .vmem S2x1024x512 .bf16 := Memref.whole cc0_scratch10

/-- The two row halves of a 256 × 512 buffer. -/
abbrev rT : Rect S256x512 := Rect.unit (s := S256x512) ![0, 0] S128x512.size inb_S256x512_S128x512_0_0
abbrev rB : Rect S256x512 := Rect.unit (s := S256x512) ![128, 0] S128x512.size inb_S256x512_S128x512_128_0
/-- The same of a 256 × 1 buffer. -/
abbrev aT : Rect S256x1 := Rect.unit (s := S256x1) ![0, 0] S128x1.size inb_S256x1_S128x1_0_0
abbrev aB : Rect S256x1 := Rect.unit (s := S256x1) ![128, 0] S128x1.size inb_S256x1_S128x1_128_0

/-- A 128-row block lies within a 512 × 512 buffer. -/
theorem blk_inb (b : Fin 4) : ∀ a : Fin 2, (![128 * b.val, 0] : Fin 2 → Nat) a + S128x512.size a ≤ S512x512.size a := by
  revert b; decide
/-- The four 128-row blocks of a 512 × 512 buffer. -/
abbrev rQ (b : Fin 4) : Rect S512x512 := Rect.unit (s := S512x512) ![128 * b.val, 0] S128x512.size (blk_inb b)

abbrev topM (M : Memref sig .tc .vmem S256x512 .bf16) : Memref sig .tc .vmem S128x512 .bf16 := M.slice rT (fun _ => rfl)
abbrev botM (M : Memref sig .tc .vmem S256x512 .bf16) : Memref sig .tc .vmem S128x512 .bf16 := M.slice rB (fun _ => rfl)
/-- Block `b` of the return buffer. -/
abbrev crW (b : Fin 4) : Memref sig .tc .vmem S128x512 .bf16 := crM.slice (rQ b) (fun _ => rfl)

/-- The block of rows `256 y + 128 k`, `y` the device's y coordinate: the first half of the rows is its own. -/
def own (c : Dev nD) (k : Fin 2) : Fin 4 := ⟨2 * (c.val % 2) + k.val, by have := k.isLt; omega⟩
/-- The block of rows `256 (1 - y) + 128 k`: the other half. -/
def oth (c : Dev nD) (k : Fin 2) : Fin 4 := ⟨2 * (1 - c.val % 2) + k.val, by have := k.isLt; omega⟩

/-- The device with the other x coordinate has the same own half; -/
theorem own_xn : ∀ (c : Dev nD) (k : Fin 2), own (xn c) k = own c k := by decide
/-- the diagonal device's own half is the other half, -/
theorem own_dg : ∀ (c : Dev nD) (k : Fin 2), own (dg c) k = oth c k := by decide
/-- and its other half the own. -/
theorem oth_dg : ∀ (c : Dev nD) (k : Fin 2), oth (dg c) k = own c k := by decide

/-- The blocks that the results are sent to: the first -/
theorem off3_0 : ∀ c : Dev nD, k0_off3 c 0#32 = ![128 * (own c 0).val, 0] := by decide +kernel
/-- and the second of the own half. -/
theorem off3_1 : ∀ c : Dev nD, k0_off3 c 128#32 = ![128 * (own c 1).val, 0] := by decide +kernel
/-- The blocks read back from the device with the other x coordinate: the first -/
theorem off6_0 : ∀ c : Dev nD, k0_off6 c 0#32 = ![128 * (own c 0).val, 0] := by decide +kernel
/-- and the second of the own half. -/
theorem off6_1 : ∀ c : Dev nD, k0_off6 c 128#32 = ![128 * (own c 1).val, 0] := by decide +kernel
/-- Those read back from the diagonal device: the first -/
theorem off7_0 : ∀ c : Dev nD, k0_off7 c 0#32 = ![128 * (oth c 0).val, 0] := by decide +kernel
/-- and the second of the other half. -/
theorem off7_1 : ∀ c : Dev nD, k0_off7 c 128#32 = ![128 * (oth c 1).val, 0] := by decide +kernel

/-- A block window at an offset equal to the block's is the block's. -/
theorem crW_of {b : Fin 4} {off : Fin 2 → Nat} (h : off = ![128 * b.val, 0]) (p) (hs) :
    crM.slice (Rect.unit (s := S512x512) off S128x512.size p) hs = crW b :=
  Memref.slice_unit_congr crM h p (blk_inb b) hs (fun _ => rfl)

abbrev barS : Sem sig := sig.barrier 0 rfl
abbrev barCell (c : Dev nD) : GSem nD τ sig := ((c : Thread nD τ), .reg barS)
abbrev dCell (c : Dev nD) (k : DmaSem sig) : GSem nD τ sig := ((c : Thread nD τ), .dma k)

/-! ## Contents -/

/-- The part of `X` under a rectangle. -/
abbrev part {s : Shape} {α : Type} (r : Rect s) (X : s.Idx → α) : r.shape.Idx → α := fun i => X (r.emb i)

/-- Device `c`'s x block, W1 block and W2 block as launched, and its staged assignment. -/
def xIn (c : Dev nD) : Vec F S512x512 .f32 := m ((c : Thread nD τ).loc main_arg0)
def w1In (c : Dev nD) : Vec F S2x512x1024 .f32 := m ((c : Thread nD τ).loc main_arg2)
def w2In (c : Dev nD) : Vec F S2x1024x512 .f32 := m ((c : Thread nD τ).loc main_arg3)
def agIn (c : Dev nD) : Vec F S512x1 .i32 := (win0_0.blk (0 : Fin 1)).view.read (Elt F) (m ((c : Thread nD τ).loc main_arg1))

/-- The device's own half of the assignment, and of x in the narrow format. -/
def asV (c : Dev nD) : Vec F S256x1 .i32 := k0_pay1 (F := F) (part (Rect.unit (s := S512x1) (k0_off1 c) S256x1.size (k0_off1_inb c)) (agIn m c))
def xbV (c : Dev nD) : Vec F S256x512 .bf16 := k0_pay2 (F := F) (part (Rect.unit (s := S512x512) (k0_off2 c) S256x512.size (k0_off2_inb c)) (xIn m c))
/-- The device's weights in the narrow format, -/
def w1V (c : Dev nD) : Vec F S2x512x1024 .bf16 := k0_pay3 (F := F) (w1In m c)
def w2V (c : Dev nD) : Vec F S2x1024x512 .bf16 := k0_pay4 (F := F) (w2In m c)
/-- and each of its two experts'. -/
abbrev w1a (c : Dev nD) : Vec F S1x512x1024 .bf16 := part (Rect.unit (s := S2x512x1024) ![0, 0, 0] S1x512x1024.size inb_S2x512x1024_S1x512x1024_0_0_0) (w1V m c)
abbrev w1b (c : Dev nD) : Vec F S1x512x1024 .bf16 := part (Rect.unit (s := S2x512x1024) ![1, 0, 0] S1x512x1024.size inb_S2x512x1024_S1x512x1024_1_0_0) (w1V m c)
abbrev w2a (c : Dev nD) : Vec F S1x1024x512 .bf16 := part (Rect.unit (s := S2x1024x512) ![0, 0, 0] S1x1024x512.size inb_S2x1024x512_S1x1024x512_0_0_0) (w2V m c)
abbrev w2b (c : Dev nD) : Vec F S1x1024x512 .bf16 := part (Rect.unit (s := S2x1024x512) ![1, 0, 0] S1x1024x512.size inb_S2x1024x512_S1x1024x512_1_0_0) (w2V m c)

/-- The device's x coordinate as the kernel computes it. -/
abbrev xw (c : Dev nD) : BitVec 32 := Scalar.remsi (Scalar.divsi (Dev.word c) 2#32) 2#32

/-- The device's two experts on its own rows. -/
def mineV (c : Dev nD) : FVec F S256x512 .f32 :=
  k0_pay7 (k0_pay5 (xw c) (asV m c) (xbV m c) (w1a m c) (w2a m c)) (k0_pay6 (xw c) (asV m c) (xbV m c) (w1b m c)) (w2b m c)
/-- The device's two experts on the rows received from `xn c`, first and second 128 of them: what it sends back. -/
def cs0V (c : Dev nD) : Vec F S128x512 .bf16 :=
  k0_pay9 (xw c) (part aT (asV m (xn c))) (k0_pay8 (xw c) (part aT (asV m (xn c))) (part rT (xbV m (xn c))) (w1a m c)) (w2a m c) (part rT (xbV m (xn c))) (w1b m c) (w2b m c)
def cs1V (c : Dev nD) : Vec F S128x512 .bf16 :=
  k0_pay12 (k0_pay11 (xw c) (part aB (asV m (xn c))) (part rB (xbV m (xn c))) (k0_pay10 (xw c)) (w1a m c) (w2a m c) (part rB (xbV m (xn c))) (w1b m c) (w2b m c))
/-- The other half of the assignment, -/
abbrev aoV (c : Dev nD) : Vec F S256x1 .i32 := part (Rect.unit (s := S512x1) (k0_off4 c) S256x1.size (k0_off4_inb c)) (agIn m c)
abbrev xoV (c : Dev nD) : Vec F S256x512 .f32 := part (Rect.unit (s := S512x512) (k0_off5 c) S256x512.size (k0_off5_inb c)) (xIn m c)
/-- and the device's two experts on the other half of the rows. -/
def othV (c : Dev nD) : FVec F S256x512 .f32 :=
  k0_pay16 (xw c) (k0_pay13 (aoV m c)) (k0_pay14 (xoV m c)) (Scalar.ofBits .bf16 0x0000#16) (k0_pay15 (F := F) (xw c) (aoV m c)) (w1a m c) (w2a m c) (w1b m c) (w2b m c)

/-! ## The schedule -/

/-- The units of each DMA semaphore's one landing. -/
def amt (k : DmaSem sig) : ℕ := match k.val with
  | 2 => w1fM.view.dmaCredit | 3 => w2fM.view.dmaCredit | 4 => xfM.view.dmaCredit
  | 7 => asM.view.dmaCredit | 14 => arM.view.dmaCredit
  | _ => (topM xbM).view.dmaCredit

/-- Every landing has at least one unit. -/
theorem amt_pos (k : DmaSem sig) : 0 < amt k := by
  unfold amt; split <;> exact View.dmaCredit_pos _ (by decide)

/-- Device `p` owns the memref, at some contents. -/
abbrev anyTc (p : Dev nD) {sp : Space} {sh : Shape} {e : EltTy} (M : Memref sig .tc sp sh e) : sProp 𝕄 :=
  iprop(∃ X, ownsTc p M fullShare X)

/-- What each unit of device `c`'s barrier hands over, by contributor. -/
def barPay (c : Dev nD) (d : Fin 3) : sProp 𝕄 := match d with
  | 0 => iprop(anyTc (xn c) arM ∗ anyTc (xn c) (topM xrM) ∗ anyTc (xn c) (botM xrM) ∗ anyTc (xn c) (crW (own c 0)) ∗ anyTc (xn c) (crW (own c 1)))
  | 1 => iprop(emp)
  | 2 => iprop(anyTc (dg c) (crW (own c 0)) ∗ anyTc (dg c) (crW (own c 1)))

/-- What the landing on DMA semaphore `k` of device `c` hands over. -/
def dmaPay (c : Dev nD) (k : DmaSem sig) : sProp 𝕄 := match k.val with
  | 2 => iprop(ownsTc c w1fM fullShare (w1In m c) ∗ ownsTc c w1HM fullShare (w1In m c))
  | 3 => iprop(ownsTc c w2fM fullShare (w2In m c) ∗ ownsTc c w2HM fullShare (w2In m c))
  | 4 => iprop(ownsTc c xfM fullShare (xIn m c) ∗ ownsTc c xHM fullShare (xIn m c))
  | 5 => ownsTc c (topM xbM) fullShare.left (part rT (xbV m c))
  | 6 => ownsTc c (botM xbM) fullShare.left (part rB (xbV m c))
  | 7 => ownsTc c asM fullShare.left (asV m c)
  | 8 => ownsTc c (topM csM) fullShare.left (cs0V m c)
  | 9 => ownsTc c (botM csM) fullShare.left (cs1V m c)
  | 10 => ownsTc c (topM csM) fullShare.right (cs0V m c)
  | 11 => ownsTc c (botM csM) fullShare.right (cs1V m c)
  | 12 => ownsTc c (topM xrM) fullShare (part rT (xbV m (xn c)))
  | 13 => ownsTc c (botM xrM) fullShare (part rB (xbV m (xn c)))
  | 14 => ownsTc c arM fullShare (asV m (xn c))
  | 15 => ownsTc c (crW (own c 0)) fullShare (cs0V m (xn c))
  | 16 => ownsTc c (crW (own c 1)) fullShare (cs1V m (xn c))
  | 17 => ownsTc c (crW (oth c 0)) fullShare (cs0V m (dg c))
  | 18 => ownsTc c (crW (oth c 1)) fullShare (cs1V m (dg c))
  | _ => iprop(emp)

/-- One round on every cell of the TensorCores. -/
def Rd : Rounds.Schedule (GSem nD τ sig) (Fin 3) 𝕄 where
  duties g r := if r = 0 ∧ g.1.2 = .tc then (match g.2 with
    | .reg _ => Finset.univ
    | .dma _ => {0}) else ∅
  amount g _ _ := match g.2 with
    | .reg _ => 1
    | .dma k => amt k
  payload g _ d := match g.2 with
    | .reg _ => barPay g.1.1 d
    | .dma k => dmaPay m g.1.1 k
  amount_pos g r d _ := by
    rcases g with ⟨t, s | k⟩
    · exact Nat.one_pos
    · exact amt_pos k

instance barPay_storable (c : Dev nD) (d : Fin 3) : BI.Storable (upEmb : UEmb _ 𝕄) (barPay (F := F) c d) := by
  unfold barPay; split <;> infer_instance
instance dmaPay_storable (c : Dev nD) (k : DmaSem sig) : BI.Storable (upEmb : UEmb _ 𝕄) (dmaPay (F := F) m c k) := by
  unfold dmaPay; split <;> infer_instance
instance Rd_payload_storable (g : GSem nD τ sig) (r : ℕ) (d : Fin 3) : BI.Storable (upEmb : UEmb _ 𝕄) ((Rd (F := F) m).payload g r d) := by
  rcases g with ⟨t, s | k⟩
  · exact barPay_storable t.1 d
  · exact dmaPay_storable m t.1 k

section Tables
variable (c : Dev nD)

/-- A barrier's round has three contributors, -/
theorem duties_bar : (Rd (F := F) m).duties (barCell c) 0 = Finset.univ := by simp [Rd]
/-- a DMA semaphore's one, -/
theorem duties_dma (k : DmaSem sig) : (Rd (F := F) m).duties (dCell c k) 0 = {0} := by simp [Rd]
/-- and there is one round only. -/
theorem duties_later (g : GSem nD τ sig) : ∀ r, 1 ≤ r → (Rd (F := F) m).duties g r = ∅ :=
  fun r hr => if_neg fun h => by omega
/-- A contributor to the barrier pays one unit, -/
theorem amount_bar (d : Fin 3) : (Rd (F := F) m).amount (barCell c) 0 d = 1 := rfl
/-- a landing all of its units; -/
theorem amount_dma (k : DmaSem sig) (d : Fin 3) : (Rd (F := F) m).amount (dCell c k) 0 d = amt k := rfl
/-- so the barrier waits for three units, -/
theorem expect_bar : (Rd (F := F) m).expect (barCell c) 0 = 3 := by
  unfold Schedule.expect Schedule.amountOf; rw [duties_bar]; rfl
/-- and a DMA semaphore for its landing's. -/
theorem expect_dma (k : DmaSem sig) : (Rd (F := F) m).expect (dCell c k) 0 = amt k := by
  unfold Schedule.expect Schedule.amountOf; rw [duties_dma, Finset.sum_singleton]; rfl
/-- Everything the barrier's three units hand over, -/
theorem rest_bar : bigSep ((Rd (F := F) m).duties (barCell c) 0 \ ∅) (fun d => (Rd (F := F) m).payload (barCell c) 0 d)
    = iprop(barPay c 0 ∗ barPay c 1 ∗ barPay c 2) := by
  rw [duties_bar, Finset.sdiff_empty]; exact bigSep_univ_eq_bigSepL [(0 : Fin 3), 1, 2] (by decide) (by decide) _
/-- and what a DMA semaphore's landing does. -/
theorem rest_dma (k : DmaSem sig) : bigSep ((Rd (F := F) m).duties (dCell c k) 0 \ ∅) (fun d => (Rd (F := F) m).payload (dCell c k) 0 d)
    = dmaPay m c k := by
  rw [duties_dma, Finset.sdiff_empty, bigSep_singleton]; rfl
end Tables

/-! ## What each device owes at launch; levels -/

/-- A list of cells and units as what is owed. -/
def owedL : List (GSem nD τ sig × ℕ) → CellTallies nD τ sig Unit
  | [] => 0
  | p :: l => owedL l + tallyAt p.1 () p.2

/-- What device `c` owes, in the order it pays. -/
def dues (c : Dev nD) : List (GSem nD τ sig × ℕ) :=
  [(barCell (xn c), 1), (barCell (yn c), 1), (barCell (dg c), 1), (dCell (xn c) 14, amt 14), (dCell (xn c) 12, amt 12), (dCell (xn c) 13, amt 13),
   (dCell (xn c) 15, amt 15), (dCell (dg c) 17, amt 17), (dCell (xn c) 16, amt 16), (dCell (dg c) 18, amt 18)]
/-- What it still owes after `n` payments. -/
def O (c : Dev nD) (n : ℕ) : CellTallies nD τ sig Unit := owedL ((dues c).drop n)

def L (g : GSem nD τ sig) : Finset Unit := if g.1.2 = .tc then {()} else ∅
/-- Barriers below the arrivals of inputs, those below the arrivals of results; every other semaphore lowest. -/
def lvS : SemLoc sig → ℕ
  | .reg _ => 1
  | .dma k => if k.val < 12 then 0 else if k.val < 15 then 2 else 3
def lv (g : GSem nD τ sig) (_ : Unit) : ℕ := lvS g.2

/-- Only the semaphores of the TensorCores have a level, -/
theorem L_of_ne (g : GSem nD τ sig) (h : g.1.2 ≠ .tc) : L g = ∅ := if_neg h
/-- and each of them has one. -/
theorem L_tc (c : Dev nD) (sm : SemLoc sig) : L ((c : Thread nD τ), sm) = {()} := if_pos rfl

/-- A cell to which something is owed is in the list. -/
theorem owedL_pos {l : List (GSem nD τ sig × ℕ)} {g : GSem nD τ sig} {u : Unit} (h : 0 < owedL l g u) : ∃ p ∈ l, g = p.1 := by
  induction l with
  | nil => exact absurd h (Nat.lt_irrefl 0)
  | cons p l ih =>
    unfold owedL at h
    rw [Pi.add_apply, Finsupp.add_apply, tallyAt_apply] at h
    by_cases hg : g = p.1 ∧ u = ()
    · exact ⟨p, List.mem_cons_self, hg.1⟩
    · rw [if_neg hg, Nat.add_zero] at h
      obtain ⟨q, hq, e⟩ := ih h
      exact ⟨q, List.mem_cons_of_mem _ hq, e⟩

/-- The semaphores owed, in the order of payment: the same on every device. -/
def dueSems : List (SemLoc sig) :=
  [.reg barS, .reg barS, .reg barS, .dma 14, .dma 12, .dma 13, .dma 15, .dma 17, .dma 16, .dma 18]

/-- What is owed after `n` payments is owed to the semaphores after the first `n`, on a TensorCore. -/
theorem dues_sem (c : Dev nD) (n : ℕ) {p : GSem nD τ sig × ℕ} (hp : p ∈ (dues c).drop n) : p.1.2 ∈ dueSems.drop n ∧ p.1.1.2 = .tc := by
  constructor
  · have h : (dues c).map (fun p => p.1.2) = dueSems := rfl
    rw [← h, ← List.map_drop]; exact List.mem_map_of_mem hp
  · have h : ∀ q ∈ (dues c).map (fun p => p.1.1.2), q = .tc := by
      rw [show (dues c).map (fun p => p.1.1.2) = List.replicate 10 .tc from rfl]
      exact fun q hq => List.eq_of_mem_replicate hq
    exact h _ (List.mem_map_of_mem (List.mem_of_mem_drop hp))

/-- A semaphore below everything still owed may be waited on. -/
theorem mayWait (c : Dev nD) (sm : SemLoc sig) (n : ℕ) (h : ∀ q ∈ dueSems.drop n, lvS sm < lvS q) :
    (levAts L lv : sProp 𝕄) ⊢ MayWait (c : Thread nD τ) sm () (O c n) :=
  MayOwe.of_cut (L := L) (lev := lv) (lvS sm) (fun p hp => by rw [Finset.mem_singleton.mp hp, L_tc]; exact Finset.mem_singleton_self _)
    (fun g u hg => by
      obtain ⟨p, hp, rfl⟩ := owedL_pos hg
      unfold L; rw [if_pos (dues_sem c n hp).2]; exact Finset.mem_singleton_self _)
    (fun p hp => by rw [Finset.mem_singleton.mp hp]; exact le_rfl)
    (fun g u hg => by
      obtain ⟨p, hp, rfl⟩ := owedL_pos hg
      exact h _ (dues_sem c n hp).1)

end Cert.Moe

end
-- ==== Proof.Rules.lean ====
/- One rule per kind of step the kernel takes, over the protocol's cells: loads and stores on owned buffers and windows,
   the local copies, the transfers between devices, the waits, the barrier. -/
module

public import proofs.«01_k».proof.Proof.Protocol

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The shared facts: the cells' invariants, their rounds opened, and the levels -/

/-- The cells of a device: its barrier, then DMA semaphores 2 … 18. -/
def cellOf (p : Dev nD × Fin 18) : GSem nD τ sig :=
  if h : p.2.val = 0 then barCell p.1 else dCell p.1 ⟨p.2.val + 1, Nat.succ_lt_succ p.2.isLt⟩

/-- The place of DMA semaphore `k` among them. -/
def ix (k : DmaSem sig) : Fin 18 := ⟨k.val - 1, by have : k.val < 19 := k.isLt; omega⟩

/-- Cell 0 of a device is its barrier, -/
theorem cellOf_bar (c : Dev nD) : cellOf (c, 0) = barCell c := rfl
/-- and the others are its own DMA semaphores. -/
theorem cellOf_dma (c : Dev nD) (k : DmaSem sig) (hk : 2 ≤ k.val) : cellOf (c, ix k) = dCell c k := by
  unfold cellOf ix; rw [dif_neg (show ¬ k.val - 1 = 0 by omega)]
  exact congrArg (dCell c) (Fin.ext (show k.val - 1 + 1 = k.val by omega))

variable (K : Dev nD × Fin 18 → ℕ)

/-- Every cell's invariant, with its round open. -/
def records : sProp 𝕄 := bigSep Finset.univ fun p => iprop(cellInv ER (Rd m) (K p) (cellOf p) ∗ reached ER (cellOf p) 0)

instance records_persistent : BI.Persistent (records m K) := by unfold records; infer_instance

/-- The facts every step may use. -/
def ctx : sProp 𝕄 := iprop(records m K ∗ levAts L lv)

instance ctx_persistent : BI.Persistent (ctx m K) := by unfold ctx; infer_instance

/-- Every cell's invariant is in the context, with its round reached: -/
theorem ctx_at (p : Dev nD × Fin 18) : ctx m K ⊢ iprop(cellInv ER (Rd m) (K p) (cellOf p) ∗ reached ER (cellOf p) 0) := by
  unfold ctx records
  exact (sep_elim_left (PROP := sProp 𝕄)).trans (bigSep_elim (Φ := fun p => iprop(cellInv ER (Rd m) (K p) (cellOf p) ∗ reached ER (cellOf p) 0)) (Finset.mem_univ p))
/-- a barrier's, -/
theorem ctx_bar (c : Dev nD) : ctx m K ⊢ iprop(cellInv ER (Rd m) (K (c, 0)) (barCell c) ∗ reached ER (barCell c) 0) := ctx_at m K (c, 0)
/-- a DMA semaphore's; -/
theorem ctx_dma (c : Dev nD) (k : DmaSem sig) (hk : 2 ≤ k.val) :
    ctx m K ⊢ iprop(cellInv ER (Rd m) (K (c, ix k)) (dCell c k) ∗ reached ER (dCell c k) 0) := by
  have h := ctx_at m K (c, ix k); rwa [cellOf_dma c k hk] at h
/-- and so are the levels. -/
theorem ctx_lev : ctx m K ⊢ (levAts L lv : sProp 𝕄) := by unfold ctx; exact sep_elim_right (PROP := sProp 𝕄)

/-- Device `c` owes `o`, whatever waits it has recorded. -/
abbrev owing (c : Dev nD) (o : CellTallies nD τ sig Unit) : sProp 𝕄 := iprop(∃ W, owes (c : Thread nD τ) o W)

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD) {α : Type} {Q : α → sProp (MT nD τ sig Unit (Elt F) ℕ UU ℕ)}

/-- A finished program. -/
theorem wpRet {a : α} : Q a ⊢ WP c (Prog.ret a) Q := by
  rw [WP, wp_ret]; iintro H; imodintro; iexact H

/-! ## Loads and stores -/

section Mem
variable {cs : CoreSpace} {s : Shape} {e : EltTy} {M : Memref sig .tc cs s e} {q : PosShare TreeShare}

omit [FloatOps F] in
/-- A load under a rectangle reads that part of the contents. -/
theorem readAt_rect (r : Rect s) (f : M.view.ty.Contents (Elt F)) :
    M.view.readAt (Elt F) r.toLoadRect f = part r (M.view.read (Elt F) f) := rfl

/-- A load through a rectangle continues at the part of the contents under it. -/
theorem ld {r : Rect s} {hl : M.view.LoadsAt r.toLoadRect} {k : (r.shape.Idx → Elt F e) → Prog (TpuEff nD τ sig (Elt F) Λ₀ .tc) α} {X : s.Idx → Elt F e} :
    (ownsTc c M q X : sProp 𝕄) ⊢ iprop((ownsTc c M q X -∗ WP c (k (part r X)) Q) -∗ WP c (.op (.load M r.toLoadRect hl) k) Q) := by
  iintro H Hk
  ihave H' := (show ownsTc c M q X ⊢ iprop(∃ g, ⌜M.view.read (Elt F) g = X⌝ ∗ (M.view.loc (c : Thread nD τ) ↦[M.view.set]{q} g)) from .rfl) $$ H
  icases H' with ⟨%f, %hf, H⟩
  subst hf
  iapply (wp_load 𝒱₀ (c : Thread nD τ) none Set.univ (m := M) (r := r.toLoadRect) (q := q) (f := f) (S := M.view.set) (Finset.map_subset_map.mpr (Finset.subset_univ _))) $$ H
  iintro H
  rw [readAt_rect]
  iapply Hk
  iapply (owns_intro (c : Thread nD τ) M q f) $$ H

/-- The part under the whole rectangle is everything. -/
theorem part_zero {off : Fin s.rank → Nat} (h : off = fun _ => 0) {inb : ∀ a, off a + s.size a ≤ s.size a} (X : s.Idx → Elt F e) :
    part (Rect.unit (s := s) off s.size inb) X = X := by
  subst h; funext i; show X ((Rect.whole s).emb i) = X i; rw [Rect.emb_whole_apply]

/-- A load through the whole buffer continues at its contents. -/
theorem ldFull {off : Fin s.rank → Nat} (h : off = fun _ => 0) {inb : ∀ a, off a + s.size a ≤ s.size a}
    {hl : M.view.LoadsAt (Rect.unit (s := s) off s.size inb).toLoadRect}
    {k : (s.Idx → Elt F e) → Prog (TpuEff nD τ sig (Elt F) Λ₀ .tc) α} {X : s.Idx → Elt F e} :
    (ownsTc c M q X : sProp 𝕄) ⊢ iprop((ownsTc c M q X -∗ WP c (k X) Q)
      -∗ WP c (.op (.load M (Rect.unit (s := s) off s.size inb).toLoadRect hl) k) Q) := by
  have h := ld (F := F) c (Q := Q) (M := M) (q := q) (r := Rect.unit (s := s) off s.size inb) (hl := hl) (k := k) (X := X)
  rwa [part_zero ‹_›] at h

/-- A load through a rectangle whose window is owned continues at the window's contents. -/
theorem ldWin {r : Rect s} {hr : ∀ a, r.stride a = 1} {hl : M.view.LoadsAt r.toLoadRect}
    {k : (r.shape.Idx → Elt F e) → Prog (TpuEff nD τ sig (Elt F) Λ₀ .tc) α} {X : r.shape.Idx → Elt F e} :
    (ownsTc c (M.slice r hr) q X : sProp 𝕄) ⊢ iprop((ownsTc c (M.slice r hr) q X -∗ WP c (k X) Q) -∗ WP c (.op (.load M r.toLoadRect hl) k) Q) := by
  iintro H Hk
  ihave H' := (show ownsTc c (M.slice r hr) q X ⊢ iprop(∃ g, ⌜(M.slice r hr).view.read (Elt F) g = X⌝ ∗ ((M.slice r hr).view.loc (c : Thread nD τ) ↦[(M.slice r hr).view.set]{q} g)) from .rfl) $$ H
  icases H' with ⟨%f, %hf, H⟩
  subst hf
  iapply (wp_load_rect 𝒱₀ (c : Thread nD τ) none Set.univ (m := M) (r := r) (f := f) (q := q) (Finset.Subset.refl (M.access r).set)) $$ H
  iintro H
  iapply Hk
  iapply (owns_intro (c : Thread nD τ) (M.slice r hr) q f) $$ H

/-- A store through a rectangle whose window is owned leaves the stored value there. -/
theorem stWin {r : Rect s} {hr : ∀ a, r.stride a = 1} {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} {X : r.shape.Idx → Elt F e} :
    (ownsTc c (M.slice r hr) fullShare X : sProp 𝕄)
      ⊢ iprop((ownsTc c (M.slice r hr) fullShare w -∗ WP c (k ⟨⟩) Q) -∗ WP c (.op (.store M r w Finset.univ hx hm) k) Q) := by
  iintro H Hk
  ihave H' := (show ownsTc c (M.slice r hr) fullShare X ⊢ iprop(∃ g, ⌜(M.slice r hr).view.read (Elt F) g = X⌝ ∗ ((M.slice r hr).view.loc (c : Thread nD τ) ↦[(M.slice r hr).view.set]{fullShare} g)) from .rfl) $$ H
  icases H' with ⟨%f, -, H⟩
  iapply (wp_store 𝒱₀ (c : Thread nD τ) none Set.univ (m := M) (r := r) (Mk := Finset.univ) (w := w) (f := f) (S := (M.access r).set) (Finset.Subset.refl _)) $$ H
  iintro H
  iapply Hk
  ihave H := (owns_intro (c : Thread nD τ) (M.slice r hr) fullShare ((M.access r).write (Elt F) f w Finset.univ)) $$ H
  rw [show (M.slice r hr).view.read (Elt F) ((M.access r).write (Elt F) f w Finset.univ) = w from View.read_write_univ f w]
  iexact H

/-- A store through the whole of a buffer. -/
theorem stFull {off : Fin s.rank → Nat} (h : off = fun _ => 0) {inb : ∀ a, off a + s.size a ≤ s.size a} {w : s.Idx → Elt F e}
    {hx : (M.access (Rect.unit (s := s) off s.size inb)).Stores Finset.univ} {hm}
    {k : PUnit → Prog (TpuEff nD τ sig (Elt F) Λ₀ .tc) α} {X : s.Idx → Elt F e} :
    (ownsTc c M fullShare X : sProp 𝕄) ⊢ iprop((ownsTc c M fullShare w -∗ WP c (k ⟨⟩) Q)
      -∗ WP c (.op (.store M (Rect.unit (s := s) off s.size inb) w Finset.univ hx hm) k) Q) := by
  iintro H Hk
  ihave H' := (show ownsTc c M fullShare X ⊢ iprop(∃ g, ⌜M.view.read (Elt F) g = X⌝ ∗ (M.view.loc (c : Thread nD τ) ↦[M.view.set]{fullShare} g)) from .rfl) $$ H
  icases H' with ⟨%f, -, H⟩
  iapply (wp_store 𝒱₀ (c : Thread nD τ) none Set.univ (m := M) (r := Rect.unit (s := s) off s.size inb) (Mk := Finset.univ) (w := w) (f := f) (S := M.view.set) (View.set_slice_subset _ _)) $$ H
  iintro H
  iapply Hk
  ihave H := (owns_intro (c : Thread nD τ) M fullShare ((M.access (Rect.unit (s := s) off s.size inb)).write (Elt F) f w Finset.univ)) $$ H
  rw [← part_zero h (inb := inb) (M.view.read (Elt F) ((M.access (Rect.unit (s := s) off s.size inb)).write (Elt F) f w Finset.univ)),
    show part (Rect.unit (s := s) off s.size inb) (M.view.read (Elt F) ((M.access (Rect.unit (s := s) off s.size inb)).write (Elt F) f w Finset.univ)) = w
      from View.read_write_univ (v := M.access (Rect.unit (s := s) off s.size inb)) f w]
  iexact H

end Mem

/-! ## Copies, transfers, waits -/

section Dma
variable {sp sp' : Space} {s : Shape} {e : EltTy} {src : Memref sig .tc sp s e} {dst : Memref sig .tc sp' s e} {q : PosShare TreeShare}

/-- A local copy onto DMA semaphore `k` hands the filled destination and the source to the semaphore's landing. -/
theorem copy {sem : SemLoc sig} (k : DmaSem sig) (hsm : sem = .dma k) (hk2 : 2 ≤ k.val) (hN : dst.view.dmaCredit = amt k)
    {hsrc : src.view.WordExact} {hdst : dst.view.WordExact} {hsem : DmaTarget.Typed (nD := nD) sp sem (DmaTarget.here (p := (.tc : Proc τ)) dst)}
    {kk : PUnit → Prog (TpuEff nD τ sig (Elt F) Λ₀ .tc) α} {X Y : s.Idx → Elt F e}
    (hpay : iprop(ownsTc c dst fullShare X ∗ ownsTc c src q X) ⊢ dmaPay m c k) :
    iprop(ctx m K ∗ ownsTc c src q X ∗ ownsTc c dst fullShare Y ∗ dutyTok ER (dCell c k) 0 (0 : Fin 3))
      ⊢ iprop((cred (tallyAt (dCell c k) () (amt k)) -∗ WP c (kk ⟨⟩) Q)
          -∗ WP c (.op (.enqueueDma src (DmaTarget.here (p := (.tc : Proc τ)) dst) sem hsrc hdst hsem) kk) Q) := by
  subst hsm
  iintro ⟨#Hc, Hs, Hd, Ht⟩ Hk
  ihave #HI := ctx_dma m K c k hk2 $$ Hc
  icases HI with ⟨#Hi, #Hr⟩
  ihave Hs' := (show ownsTc c src q X ⊢ iprop(∃ g, ⌜src.view.read (Elt F) g = X⌝ ∗ (src.view.loc (c : Thread nD τ) ↦[src.view.set]{q} g)) from .rfl) $$ Hs
  icases Hs' with ⟨%f, %hf, Hs⟩
  ihave Hd' := (show ownsTc c dst fullShare Y ⊢ iprop(∃ g, ⌜dst.view.read (Elt F) g = Y⌝ ∗ (dst.view.loc (c : Thread nD τ) ↦[dst.view.set]{fullShare} g)) from .rfl) $$ Hd
  icases Hd' with ⟨%fd, -, Hd⟩
  have hp : iprop((dst.view.loc (c : Thread nD τ) ↦[dst.view.set]{fullShare} (dst.view.write (Elt F) fd (src.view.read (Elt F) f) Finset.univ))
      ∗ (src.view.loc (c : Thread nD τ) ↦[src.view.set]{q} f)) ⊢ (Rd m).payload (dCell c k) 0 0 := by
    refine (show iprop(_ ∗ _) ⊢ iprop(ownsTc c dst fullShare X ∗ ownsTc c src q X) from ?_).trans hpay
    have h1 := owns_intro (Ix := Unit) (Name := ℕ) (U := UU) (Lvl := ℕ) (c : Thread nD τ) dst fullShare (dst.view.write (Elt F) fd (src.view.read (Elt F) f) Finset.univ)
    have h2 := owns_intro (Ix := Unit) (Name := ℕ) (U := UU) (Lvl := ℕ) (c : Thread nD τ) src q f
    rw [View.read_write_univ, hf] at h1; rw [hf] at h2
    rw [hf]
    exact BI.sep_mono h1 h2
  iapply (Rounds.wp_copy_pointsTo 𝒱₀ ER (Rd m) (c : Thread nD τ) none (src := src) (dst := dst) (sem := .dma k) (q := q) (fs := f) (fd := fd) (r := 0) (d := 0) (κ := K (c, ix k))
    (by rw [duties_dma]; exact Finset.mem_singleton_self _) () (amt k) hN (amount_dma m c k 0)
    hp) $$ [Hs Hd Ht]
  · isplitr; · iexact Hi
    isplitl [Hs]; · iexact Hs
    isplitl [Hd]; · iexact Hd
    isplitl [Ht]; · iexact Ht
    iexact Hr
  iexact Hk

/-- A transfer to device `p`: the source share goes to the departure semaphore `ks` of the sender, the filled window to
    the arrival semaphore `kr` of `p`, paying what was owed there. -/
theorem send {p n : Dev nD} (hn : n = p) {sS sem : SemLoc sig} (ks kr : DmaSem sig) (hsS : sS = .dma ks) (hsem' : sem = .dma kr)
    (hs2 : 2 ≤ ks.val) (hr2 : 2 ≤ kr.val) (hN : dst.view.dmaCredit = amt kr) (hNs : amt ks = amt kr)
    {dst' : Memref sig .tc sp' s e} (hd : dst' = dst)
    {hsc : dst'.view.ref.isScScratch = false} {hsrc : src.view.WordExact} {hdst : dst'.view.WordExact} {hsem : DmaTarget.Typed sp sem (DmaTarget.remote (p := (.tc : Proc τ)) (Dev.tc n : Thread nD τ) dst' sS hsc)}
    {kk : PUnit → Prog (TpuEff nD τ sig (Elt F) Λ₀ .tc) α} {X Y : s.Idx → Elt F e} (i : ℕ) (hO : O c i = O c (i + 1) + tallyAt (dCell p kr) () (amt kr))
    (hpay₁ : ownsTc c src q X ⊢ dmaPay m c ks) (hpay₂ : ownsTc p dst fullShare X ⊢ dmaPay m p kr) :
    iprop(ctx m K ∗ owing c (O c i) ∗ ownsTc c src q X ∗ ownsTc p dst fullShare Y ∗ dutyTok ER (dCell c ks) 0 (0 : Fin 3) ∗ dutyTok ER (dCell p kr) 0 (0 : Fin 3))
      ⊢ iprop(((cred (tallyAt (dCell c ks) () (amt ks)) ∗ owing c (O c (i + 1))) -∗ WP c (kk ⟨⟩) Q)
          -∗ WP c (.op (.enqueueDma src (.remote (Dev.tc n : Thread nD τ) dst' sS hsc) sem hsrc hdst hsem) kk) Q) := by
  subst hn hsS hsem' hd
  iintro ⟨#Hc, ⟨%W, HO⟩, Hs, Hd, Ht1, Ht2⟩ Hk
  ihave #HI := ctx_dma m K c ks hs2 $$ Hc
  ihave #HJ := ctx_dma m K n kr hr2 $$ Hc
  icases HI with ⟨#Hi1, #Hr1⟩
  icases HJ with ⟨#Hi2, #Hr2⟩
  ihave Hs' := (show ownsTc c src q X ⊢ iprop(∃ g, ⌜src.view.read (Elt F) g = X⌝ ∗ (src.view.loc (c : Thread nD τ) ↦[src.view.set]{q} g)) from .rfl) $$ Hs
  icases Hs' with ⟨%f, %hf, Hs⟩
  ihave Hd' := (show ownsTc n dst' fullShare Y ⊢ iprop(∃ g, ⌜dst'.view.read (Elt F) g = Y⌝ ∗ (dst'.view.loc (n : Thread nD τ) ↦[dst'.view.set]{fullShare} g)) from .rfl) $$ Hd
  icases Hd' with ⟨%fd, -, Hd⟩
  have hp₁ : (src.view.loc (c : Thread nD τ) ↦[src.view.set]{q} f) ⊢ (Rd m).payload (dCell c ks) 0 0 := by
    have h2 := owns_intro (Ix := Unit) (Name := ℕ) (U := UU) (Lvl := ℕ) (c : Thread nD τ) src q f
    rw [hf] at h2
    exact h2.trans hpay₁
  have hp₂ : (dst'.view.loc (n : Thread nD τ) ↦[dst'.view.set]{fullShare} (dst'.view.write (Elt F) fd (src.view.read (Elt F) f) Finset.univ))
      ⊢ (Rd m).payload (dCell n kr) 0 0 := by
    have h1 := owns_intro (Ix := Unit) (Name := ℕ) (U := UU) (Lvl := ℕ) (n : Thread nD τ) dst' fullShare (dst'.view.write (Elt F) fd (src.view.read (Elt F) f) Finset.univ)
    rw [View.read_write_univ, hf] at h1
    rw [hf]
    exact h1.trans hpay₂
  iapply (Rounds.wp_send_pointsTo 𝒱₀ ER (Rd m) (c : Thread nD τ) none (c' := (n : Thread nD τ)) (src := src) (dst := dst') (sS := .dma ks) (sem := .dma kr) (q := q) (fs := f) (fd := fd)
    (r₁ := 0) (r₂ := 0) (d₁ := 0) (d₂ := 0) (κ₁ := K (c, ix ks)) (κ₂ := K (n, ix kr))
    (by rw [duties_dma]; exact Finset.mem_singleton_self _) (by rw [duties_dma]; exact Finset.mem_singleton_self _)
    () () (amt kr) hN ((amount_dma m c ks 0).trans hNs) (amount_dma m n kr 0) (O c (i + 1)) hO
    hp₁ hp₂) $$ [HO Hs Hd Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply Hk
  isplitl [Hcr]
  · rw [hNs]; iexact Hcr
  · iexists W; iexact HO

/-- A wait for DMA semaphore `k`'s landing gets what it hands over; the semaphore ends at zero. -/
theorem wait {sem : DmaSem sig} (k : DmaSem sig) (hsm : sem = k) (hk2 : 2 ≤ k.val)
    {spd sps : Space} {sd ss : Shape} {ed es : EltTy} {wsrc : Memref sig .tc sps ss es} {wdst : Memref sig .tc spd sd ed} (hN : wdst.view.dmaCredit = amt k)
    {hsrc : wsrc.view.WordExact} {hdst : wdst.view.WordExact}
    {kk : PUnit → Prog (TpuEff nD τ sig (Elt F) Λ₀ .tc) α} (i : ℕ) (hw : ∀ q ∈ dueSems.drop i, lvS (.dma k) < lvS q) {P : sProp 𝕄} (hP : dmaPay m c k ⊢ P) :
    iprop(ctx m K ∗ owing c (O c i) ∗ cred (tallyAt (dCell c k) () (amt k)) ∗ atPos ER (dCell c k) 0 ∅ 0)
      ⊢ iprop(((owing c (O c i) ∗ semVal (dCell c k) 0 ∗ P) -∗ WP c (kk ⟨⟩) Q)
          -∗ WP c (.op (.waitDma2 sem wsrc wdst hsrc hdst) kk) Q) := by
  subst hsm
  iintro ⟨#Hc, ⟨%W, HO⟩, Hcr, Hat⟩ Hk
  ihave #HI := ctx_dma m K c sem hk2 $$ Hc
  icases HI with ⟨#Hi, #Hr⟩
  ihave #Hlev := ctx_lev m K $$ Hc
  ihave Hw := mayWait c (.dma sem) i hw $$ Hlev
  iapply (Rounds.wp_wait_rest_token 𝒱₀ ER (Rd m) (c : Thread nD τ) none (κ := K (c, ix sem))
    (wpE_waitDma2_eq 𝒱₀ (c : Thread nD τ) none Set.univ) (Set.mem_univ _) () (O := O c i) (W := W) (R := 0) (m := 0) (T := ∅)
    (show 0 + wdst.view.dmaCredit = (Rd m).expect (dCell c sem) 0 by rw [Nat.zero_add, hN, expect_dma])) $$ [Hcr HO Hw Hat]
  · isplitr; · iexact Hi
    isplitl [Hcr]; · rw [hN]; iexact Hcr
    isplitl [HO]; · iexact HO
    isplitl [Hw]; · iexact Hw
    iexact Hat
  iintro ⟨HO, Hat, -, Hpay⟩
  ihave Hpay := ((Entails.of_eq (rest_dma m c sem)).trans hP) $$ Hpay
  imod (Rounds.cell_close ER (Rd m) (Set.mem_univ (K (c, ix sem))) (fun h => h) (R := 0 + 1) (duties_later m (dCell c sem))) $$ [Hat] with Hz
  · isplitr; · iexact Hi
    iexact Hat
  iapply Hk
  isplitl [HO]; · iexists _; iexact HO
  isplitl [Hz]; · iexact Hz
  iexact Hpay

end Dma

/-- A unit to the barrier of device `p`, paying the unit owed there. -/
theorem signal {p n : Dev nD} (hn : n = p) {d : Fin 3} {sm : Sem sig} (hsm : sm = barS) (i : ℕ) (hO : O c i = O c (i + 1) + tallyAt (barCell p) () 1)
    {kk : PUnit → Prog (TpuEff nD τ sig (Elt F) Λ₀ .tc) α} :
    iprop(ctx m K ∗ owing c (O c i) ∗ dutyTok ER (barCell p) 0 d ∗ barPay p d)
      ⊢ iprop((owing c (O c (i + 1)) -∗ WP c (kk ⟨⟩) Q) -∗ WP c (.op (.semSignal (n : Thread nD τ) sm 1) kk) Q) := by
  subst hn hsm
  iintro ⟨#Hc, ⟨%W, HO⟩, Ht, Hp⟩ Hk
  ihave #HI := ctx_bar m K n $$ Hc
  icases HI with ⟨#Hi, #Hr⟩
  iapply (Rounds.wp_signal 𝒱₀ ER (Rd m) (c : Thread nD τ) none (dst := (n : Thread nD τ)) (sem := barS) (κ := K (n, 0)) (r := 0) (d := d) (k' := 1)
    (by rw [duties_bar]; exact Finset.mem_univ _) (amount_bar m n d) () (O c (i + 1)) hO (W := W)) $$ [HO Ht Hp]
  · isplitr; · iexact Hi
    isplitl [HO]; · iexact HO
    isplitl [Ht]; · iexact Ht
    isplitl [Hp]; · ihave Hp := (Entails.of_eq (show barPay n d = (Rd m).payload (barCell n) 0 d from rfl)) $$ Hp; iexact Hp
    iexact Hr
  iintro HO
  iapply Hk
  iexists W; iexact HO

/-- The barrier wait gets what the three units hand over; the barrier ends at zero. -/
theorem waitBar {sm : Sem sig} (hsm : sm = barS) (i : ℕ) (hw : ∀ q ∈ dueSems.drop i, lvS (.reg barS) < lvS q) {P P' : sProp 𝕄} (hP : barPay c 0 ⊢ P) (hP' : barPay c 2 ⊢ P')
    {kk : PUnit → Prog (TpuEff nD τ sig (Elt F) Λ₀ .tc) α} :
    iprop(ctx m K ∗ owing c (O c i) ∗ cred (tallyAt (barCell c) () 3) ∗ atPos ER (barCell c) 0 ∅ 0)
      ⊢ iprop(((owing c (O c i) ∗ semVal (barCell c) 0 ∗ P ∗ P') -∗ WP c (kk ⟨⟩) Q)
          -∗ WP c (.op (.semWait sm 3) kk) Q) := by
  subst hsm
  iintro ⟨#Hc, ⟨%W, HO⟩, Hcr, Hat⟩ Hk
  ihave #HI := ctx_bar m K c $$ Hc
  icases HI with ⟨#Hi, #Hr⟩
  ihave #Hlev := ctx_lev m K $$ Hc
  ihave Hw := mayWait c (.reg barS) i hw $$ Hlev
  iapply (Rounds.wp_wait_rest_token 𝒱₀ ER (Rd m) (c : Thread nD τ) none (κ := K (c, 0))
    (wpE_semWait_eq 𝒱₀ (c : Thread nD τ) none Set.univ) (Set.mem_univ _) () (O := O c i) (W := W) (R := 0) (m := 0) (T := ∅)
    (show 0 + 3 = (Rd m).expect (barCell c) 0 by rw [expect_bar])) $$ [Hcr HO Hw Hat]
  · isplitr; · iexact Hi
    isplitl [Hcr]; · iexact Hcr
    isplitl [HO]; · iexact HO
    isplitl [Hw]; · iexact Hw
    iexact Hat
  iintro ⟨HO, Hat, -, Hpay⟩
  ihave Hpay := (Entails.of_eq (rest_bar m c)) $$ Hpay
  icases Hpay with ⟨H0, -, H2⟩
  imod (Rounds.cell_close ER (Rd m) (Set.mem_univ (K (c, 0))) (fun h => h) (R := 0 + 1) (duties_later m (barCell c))) $$ [Hat] with Hz
  · isplitr; · iexact Hi
    iexact Hat
  iapply Hk
  isplitl [HO]; · iexists _; iexact HO
  isplitl [Hz]; · iexact Hz
  isplitl [H0]; · iapply hP $$ H0
  iapply hP' $$ H2

end Cert.Moe

end
-- ==== Proof.Windows.lean ====
/- Buffers cut into row windows: the halves of a 256-row buffer and the four 128-row blocks of a 512-row one are disjoint
   and cover it, so a buffer owned is its windows owned and back. -/
module

public import proofs.«01_k».proof.Proof.Rules

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Families of rectangles that cut a shape -/

/-- Every index lies in exactly one rectangle of the family. -/
structure Cuts {s : Shape} {T : Type} (r : T → Rect s) : Prop where
  inj : ∀ t t' j j', (r t).emb j = (r t').emb j' → t = t'
  cov : ∀ i, ∃ t j, (r t).emb j = i

namespace Cuts
variable {s : Shape} {T : Type} {r : T → Rect s}

/-- The pieces of a cut do not meet -/
theorem disjoint (h : Cuts r) (t t' : T) (ht : t ≠ t') : Disjoint (r t).set (r t').set := by
  rw [Finset.disjoint_left]
  intro x hx hx'
  rw [← Rect.map_emb_univ, Finset.mem_map] at hx hx'
  obtain ⟨j, -, rfl⟩ := hx
  obtain ⟨j', -, e⟩ := hx'
  exact ht (h.inj _ _ _ _ e.symm)

/-- and together are everything. -/
theorem cover [Fintype T] (h : Cuts r) : (Finset.univ : Finset T).biUnion (fun t => (r t).set) = Finset.univ := by
  refine Finset.eq_univ_iff_forall.mpr fun i => ?_
  obtain ⟨t, j, rfl⟩ := h.cov i
  exact Finset.mem_biUnion.mpr ⟨t, Finset.mem_univ _, by rw [← Rect.map_emb_univ]; exact Finset.mem_map_of_mem _ (Finset.mem_univ j)⟩

/-- Values given window by window, as one value. -/
theorem glue (h : Cuts r) {α : Type} (Xs : ∀ t, (r t).shape.Idx → α) : ∃ X : s.Idx → α, ∀ t, part (r t) X = Xs t := by
  classical
  choose t j e using h.cov
  refine ⟨fun i => Xs (t i) (j i), fun t' => funext fun j' => ?_⟩
  have ht : t ((r t').emb j') = t' := h.inj _ _ _ _ (e ((r t').emb j'))
  have key : ∀ t'' (j'' : (r t'').shape.Idx), t'' = t' → (r t'').emb j'' = (r t').emb j' → Xs t'' j'' = Xs t' j' := by
    intro t'' j'' h1 h2; subst h1; rw [(r t'').emb.injective h2]
  exact key _ _ ht (e _)

/-- A value is determined by its windows. -/
theorem ext (h : Cuts r) {α : Type} {X Y : s.Idx → α} (e : ∀ t, part (r t) X = part (r t) Y) : X = Y :=
  funext fun i => by obtain ⟨t, j, rfl⟩ := h.cov i; exact congrFun (e t) j

variable [Fintype T] [DecidableEq T] (h : Cuts r) (hr : ∀ t a, (r t).stride a = 1)
  (c : Dev nD) {sp : Space} {e : EltTy} (M : Memref sig .tc sp s e) (q : PosShare TreeShare)
include h

/-- A buffer falls into the pieces of a cut, -/
theorem split (X : s.Idx → Elt F e) :
    (ownsTc c M q X : sProp 𝕄) ⊢ bigSep Finset.univ fun t => ownsTc c (M.slice (r t) (hr t)) q (part (r t) X) :=
  owns_rects (c : Thread nD τ) M q r hr h.disjoint h.cover X

/-- and the pieces make it up again. -/
theorem join [∀ e, Nonempty (Elt F e)] (X : s.Idx → Elt F e) :
    (bigSep Finset.univ fun t => ownsTc c (M.slice (r t) (hr t)) q (part (r t) X)) ⊢ (ownsTc c M q X : sProp 𝕄) :=
  owns_of_rects (c : Thread nD τ) M q r hr h.disjoint h.cover X

end Cuts

instance (e : EltTy) : Nonempty (Elt F e) := by
  cases e <;> first | exact ⟨(0#_ : BitVec _)⟩ | exact ⟨FloatOps.ofBits _ 0⟩ | infer_instance

/-! ## Row halves and row blocks -/

/-- The halves of a 256 × 512 buffer, -/
def halves : Fin 2 → Rect S256x512 := fun | 0 => rT | 1 => rB
/-- The two halves take every row -/
theorem halves_stride (t : Fin 2) (a) : (halves t).stride a = 1 := by fin_cases t <;> rfl
/-- from row 128 times their number on, -/
theorem halves_row (t : Fin 2) (j : (halves t).shape.Idx) : ((halves t).emb j 0).val = 128 * t.val + (j 0).val ∧ (j 0).val < 128 := by
  fin_cases t
  · exact ⟨show 0 + 1 * (j 0).val = 128 * 0 + (j 0).val by omega, (j 0).isLt⟩
  · exact ⟨show 128 + 1 * (j 0).val = 128 * 1 + (j 0).val by omega, (j 0).isLt⟩
/-- and they cut the buffer. -/
theorem halves_cuts : Cuts halves where
  inj t t' j j' e := by
    have h0 := congrArg (fun i : S256x512.Idx => (i 0).val) e
    have b1 := halves_row t j
    have b2 := halves_row t' j'
    simp only at h0
    exact Fin.ext (by omega)
  cov i := by
    have h1 : (i 1).val < 512 := (i 1).isLt
    by_cases h : (i 0).val < 128
    · refine ⟨0, fun | 0 => ⟨(i 0).val, h⟩ | 1 => ⟨(i 1).val, h1⟩, funext fun a => Fin.ext ?_⟩
      fin_cases a
      · show 0 + 1 * (i 0).val = (i 0).val; omega
      · show 0 + 1 * (i 1).val = (i 1).val; omega
    · have hb : (i 0).val < 256 := (i 0).isLt
      refine ⟨1, fun | 0 => ⟨(i 0).val - 128, by show _ < 128; omega⟩ | 1 => ⟨(i 1).val, h1⟩, funext fun a => Fin.ext ?_⟩
      fin_cases a
      · show 128 + 1 * ((i 0).val - 128) = (i 0).val; omega
      · show 0 + 1 * (i 1).val = (i 1).val; omega

/-- and the blocks of a 512 × 512 one. -/
theorem blocks_cuts : Cuts rQ where
  inj t t' j j' e := by
    have h0 : 128 * t.val + 1 * (j 0).val = 128 * t'.val + 1 * (j' 0).val := congrArg (fun i : S512x512.Idx => (i 0).val) e
    have b1 : (j 0).val < 128 := (j 0).isLt
    have b2 : (j' 0).val < 128 := (j' 0).isLt
    exact Fin.ext (by omega)
  cov i := by
    have hb : (i 0).val < 512 := (i 0).isLt
    have h1 : (i 1).val < 512 := (i 1).isLt
    have hm : (i 0).val % 128 < 128 := Nat.mod_lt _ (by decide)
    have hq : (i 0).val / 128 < 4 := by omega
    refine ⟨(⟨(i 0).val / 128, hq⟩ : Fin 4), fun | 0 => ⟨(i 0).val % 128, hm⟩ | 1 => ⟨(i 1).val, h1⟩, funext fun a => Fin.ext ?_⟩
    fin_cases a
    · show 128 * ((i 0).val / 128) + 1 * ((i 0).val % 128) = (i 0).val; omega
    · show 0 + 1 * (i 1).val = (i 1).val; omega

section Own
variable (c : Dev nD) {q : PosShare TreeShare}

/-- A buffer of 256 rows as its two halves, -/
theorem split2 {M : Memref sig .tc .vmem S256x512 .bf16} {X : Vec F S256x512 .bf16} :
    (ownsTc c M q X : sProp 𝕄) ⊢ iprop(ownsTc c (topM M) q (part rT X) ∗ ownsTc c (botM M) q (part rB X)) :=
  (halves_cuts.split halves_stride c M q X).trans (Entails.of_eq (bigSep_univ_eq_bigSepL [(0 : Fin 2), 1] (by decide) (by decide) _))

/-- and back. -/
theorem join2 {M : Memref sig .tc .vmem S256x512 .bf16} {X : Vec F S256x512 .bf16} :
    iprop(ownsTc c (topM M) q (part rT X) ∗ ownsTc c (botM M) q (part rB X)) ⊢ (ownsTc c M q X : sProp 𝕄) :=
  (Entails.of_eq (bigSep_univ_eq_bigSepL [(0 : Fin 2), 1] (by decide) (by decide)
    (fun t => ownsTc c (M.slice (halves t) (halves_stride t)) q (part (halves t) X))).symm).trans (halves_cuts.join halves_stride c M q X)

/-- Two halves at any contents are the buffer at some. -/
theorem join2_any {M : Memref sig .tc .vmem S256x512 .bf16} {X Y : Vec F S128x512 .bf16} :
    iprop(ownsTc c (topM M) q X ∗ ownsTc c (botM M) q Y) ⊢ (iprop(∃ Z, ownsTc c M q Z) : sProp 𝕄) := by
  obtain ⟨Z, hZ⟩ := halves_cuts.glue (α := Elt F .bf16) (fun | 0 => X | 1 => Y)
  have h0 : part rT Z = X := hZ 0
  have h1 : part rB Z = Y := hZ 1
  subst h0 h1
  iintro H; iexists Z; iapply (join2 c) $$ H

/-- Block `b` of a 512 × 512 buffer. -/
abbrev blkM (M : Memref sig .tc .vmem S512x512 .bf16) (b : Fin 4) : Memref sig .tc .vmem S128x512 .bf16 := M.slice (rQ b) (fun _ => rfl)

/-- The four blocks, named by whose half they are in. -/
theorem blocks_list (Φ : Fin 4 → sProp 𝕄) :
    bigSep Finset.univ Φ = iprop(Φ (own c 0) ∗ Φ (own c 1) ∗ Φ (oth c 0) ∗ Φ (oth c 1)) :=
  bigSep_univ_eq_bigSepL [own c 0, own c 1, oth c 0, oth c 1] (by revert c; decide) (by revert c; decide) Φ

/-- The buffer is its two blocks of the device's own half and the two of the other. -/
theorem split4 {M : Memref sig .tc .vmem S512x512 .bf16} {X : Vec F S512x512 .bf16} :
    (ownsTc c M q X : sProp 𝕄) ⊢ iprop(ownsTc c (blkM M (own c 0)) q (part (rQ (own c 0)) X) ∗ ownsTc c (blkM M (own c 1)) q (part (rQ (own c 1)) X)
      ∗ ownsTc c (blkM M (oth c 0)) q (part (rQ (oth c 0)) X) ∗ ownsTc c (blkM M (oth c 1)) q (part (rQ (oth c 1)) X)) :=
  (blocks_cuts.split (fun _ _ => rfl) c M q X).trans (Entails.of_eq (blocks_list c _))

/-- The four blocks make up the buffer. -/
theorem join4 {M : Memref sig .tc .vmem S512x512 .bf16} {X : Vec F S512x512 .bf16} :
    iprop(ownsTc c (blkM M (own c 0)) q (part (rQ (own c 0)) X) ∗ ownsTc c (blkM M (own c 1)) q (part (rQ (own c 1)) X)
      ∗ ownsTc c (blkM M (oth c 0)) q (part (rQ (oth c 0)) X) ∗ ownsTc c (blkM M (oth c 1)) q (part (rQ (oth c 1)) X)) ⊢ (ownsTc c M q X : sProp 𝕄) :=
  (Entails.of_eq (blocks_list c (fun t => ownsTc c (M.slice (rQ t) (fun _ => rfl)) q (part (rQ t) X))).symm).trans (blocks_cuts.join (fun _ _ => rfl) c M q X)

end Own

/-- The four blocks' values by the device's own and other half, as a value by block. -/
def byBlock {α : Type} (c : Dev nD) (a b a' b' : α) (t : Fin 4) : α :=
  if t = own c 0 then a else if t = own c 1 then b else if t = oth c 0 then a' else b'
/-- A choice by block takes its value at each of the four. -/
theorem byBlock_spec {α : Type} (c : Dev nD) (a b a' b' : α) :
    byBlock c a b a' b' (own c 0) = a ∧ byBlock c a b a' b' (own c 1) = b ∧ byBlock c a b a' b' (oth c 0) = a' ∧ byBlock c a b a' b' (oth c 1) = b' := by
  have h : own c 1 ≠ own c 0 ∧ oth c 0 ≠ own c 0 ∧ oth c 0 ≠ own c 1 ∧ oth c 1 ≠ own c 0 ∧ oth c 1 ≠ own c 1 ∧ oth c 1 ≠ oth c 0 := by revert c; decide
  obtain ⟨h1, h2, h3, h4, h5, h6⟩ := h
  unfold byBlock
  simp [h1, h2, h3, h4, h5, h6]

/-- Four blocks at any contents are the buffer at some. -/
theorem join4_any (c : Dev nD) {q : PosShare TreeShare} {M : Memref sig .tc .vmem S512x512 .bf16} {a b a' b' : Vec F S128x512 .bf16} :
    iprop(ownsTc c (blkM M (own c 0)) q a ∗ ownsTc c (blkM M (own c 1)) q b ∗ ownsTc c (blkM M (oth c 0)) q a' ∗ ownsTc c (blkM M (oth c 1)) q b')
      ⊢ (iprop(∃ Z, ownsTc c M q Z) : sProp 𝕄) := by
  obtain ⟨Z, hZ⟩ := blocks_cuts.glue (α := Elt F .bf16) (fun t => byBlock (α := Vec F S128x512 .bf16) c a b a' b' t)
  obtain ⟨e1, e2, e3, e4⟩ := byBlock_spec (α := Vec F S128x512 .bf16) c a b a' b'
  have h := join4 (F := F) c (q := q) (M := M) (X := Z)
  rw [hZ, hZ, hZ, hZ, e1, e2, e3, e4] at h
  exact h.trans (exists_intro (PROP := sProp 𝕄) Z)

/-- A block's window, at any offset equal to the block's. -/
theorem owns_off (d : Dev nD) {M : Memref sig .tc .vmem S512x512 .bf16} {q : PosShare TreeShare} {X : Vec F S128x512 .bf16} {b : Fin 4} {off : Fin 2 → Nat}
    (h : off = ![128 * b.val, 0]) (p : ∀ a, off a + S128x512.size a ≤ S512x512.size a) :
    (ownsTc d (blkM M b) q X : sProp 𝕄) = ownsTc d (M.slice (Rect.unit (s := S512x512) off S128x512.size p) (fun _ => rfl)) q X := by
  subst h; rfl

end Cert.Moe

end
-- ==== Proof.PartsA.lean ====
/- The kernel's first parts on one device: the local copies and the barrier, the exchange of assignments and x rows, the
   weights. Each part's lemma says what it takes and what it leaves. -/
module

public import proofs.«01_k».proof.Proof.Windows

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 18 → ℕ) (c : Dev nD)

/-! ## The parts at the launch's buffers -/

/-- A function of the body's buffers and semaphores. -/
abbrev Args (β : Type 1) : Type 1 := ∀ (arg0 : Memref sig .tc .hbm S512x512 .f32) (harg0 : arg0.IsWhole) (arg1 : Memref sig .tc .vmem S512x1 .i32) (harg1 : arg1.IsWhole) (arg2 : Memref sig .tc .hbm S2x512x1024 .f32) (harg2 : arg2.IsWhole) (arg3 : Memref sig .tc .hbm S2x1024x512 .f32) (harg3 : arg3.IsWhole) (arg4 : Memref sig .tc .vmem S512x512 .bf16) (harg4 : arg4.IsWhole) (arg5 : Memref sig .tc .vmem S256x1 .i32) (harg5 : arg5.IsWhole) (arg6 : Memref sig .tc .vmem S256x512 .bf16) (harg6 : arg6.IsWhole) (arg7 : Memref sig .tc .vmem S256x1 .i32) (harg7 : arg7.IsWhole) (arg8 : Memref sig .tc .vmem S256x512 .bf16) (harg8 : arg8.IsWhole) (arg9 : Memref sig .tc .vmem S512x512 .bf16) (harg9 : arg9.IsWhole) (arg10 : Memref sig .tc .vmem S512x512 .f32) (harg10 : arg10.IsWhole) (arg11 : Memref sig .tc .vmem S256x512 .bf16) (harg11 : arg11.IsWhole) (arg12 : Memref sig .tc .vmem S2x512x1024 .f32) (harg12 : arg12.IsWhole) (arg13 : Memref sig .tc .vmem S2x1024x512 .f32) (harg13 : arg13.IsWhole) (arg14 : Memref sig .tc .vmem S2x512x1024 .bf16) (harg14 : arg14.IsWhole) (arg15 : Memref sig .tc .vmem S2x1024x512 .bf16) (harg15 : arg15.IsWhole) (arg16 : DmaSems sig S3) (arg17 : DmaSems sig S7) (arg18 : DmaSems sig S7), β

/-- It at the buffers and semaphores of the launch. -/
abbrev app {β : Type 1} (f : Args β) : β :=
  f xHM (Memref.isWhole_whole _) agM (Memref.isWhole_whole _) w1HM (Memref.isWhole_whole _) w2HM (Memref.isWhole_whole _) oM (Memref.isWhole_whole _)
    asM (Memref.isWhole_whole _) xrM (Memref.isWhole_whole _) arM (Memref.isWhole_whole _) csM (Memref.isWhole_whole _) crM (Memref.isWhole_whole _)
    xfM (Memref.isWhole_whole _) xbM (Memref.isWhole_whole _) w1fM (Memref.isWhole_whole _) w2fM (Memref.isWhole_whole _) w1M (Memref.isWhole_whole _)
    w2M (Memref.isWhole_whole _) cc0_scratch11 cc0_scratch12 cc0_scratch13

/-- A duty's token, the credit of a DMA landing, a cell's position at launch, a DMA semaphore's value at the end. -/
abbrev tok (g : GSem nD τ sig) (d : Fin 3) : sProp 𝕄 := dutyTok ER g 0 d
abbrev crd (k : DmaSem sig) : sProp 𝕄 := cred (tallyAt (dCell c k) () (amt k))
abbrev pos (g : GSem nD τ sig) : sProp 𝕄 := atPos ER g 0 ∅ 0
abbrev fin (k : DmaSem sig) : sProp 𝕄 := semVal (dCell c k) 0

/-- The zero offset in two dimensions, -/
theorem hz2 : (![0, 0] : Fin 2 → Nat) = fun _ => 0 := funext fun a => by fin_cases a <;> rfl
/-- and in three. -/
theorem hz3 : (![0, 0, 0] : Fin 3 → Nat) = fun _ => 0 := funext fun a => by fin_cases a <;> rfl

/-! ## Part 1: the local copies start; the units to `xn` and `yn` -/

/-- The three local copies start, and the first two barrier units are paid. -/
theorem part1 {Q : _ → sProp 𝕄} :
    iprop(ctx m K ∗ owing c (O c 0)
        ∗ (ownsTc c xHM fullShare (xIn m c) ∗ anyTc c xfM ∗ tok (dCell c 4) 0)
        ∗ (ownsTc c w1HM fullShare (w1In m c) ∗ anyTc c w1fM ∗ tok (dCell c 2) 0)
        ∗ (ownsTc c w2HM fullShare (w2In m c) ∗ anyTc c w2fM ∗ tok (dCell c 3) 0)
        ∗ (tok (barCell (xn c)) 0 ∗ barPay (xn c) 0) ∗ tok (barCell (yn c)) 1)
      ⊢ iprop(((owing c (O c 2) ∗ crd c 4 ∗ crd c 2 ∗ crd c 3)
            -∗ Q ⟨c, xw c, Scalar.remsi (Scalar.divsi (Dev.word c) 1#32) 2#32, Scalar.subi 1#32 (xw c), Scalar.subi 1#32 (xw c),
              Scalar.subi 1#32 (Scalar.remsi (Scalar.divsi (Dev.word c) 1#32) 2#32), Scalar.muli (Scalar.remsi (Scalar.divsi (Dev.word c) 1#32) 2#32) 256#32,
              Scalar.muli (Scalar.subi 1#32 (Scalar.remsi (Scalar.divsi (Dev.word c) 1#32) 2#32)) 256#32, SemArray.scalar (sig.barrier 0 rfl),
              Scalar.muli (Scalar.subi 1#32 (xw c)) 2#32, 0#32⟩)
          -∗ WP c (app (k0_part1 (F := F))) Q) := by
  simp only [k0_part1_eq_skeleton]; unfold app k0_part1_skel
  simp only [semSignalWord, semWaitWord, Prog.lift, Prog.bind_op, Prog.bind_ret, Prog.pure_eq_ret, wp_deviceId]
  iintro ⟨#Hc, HO, ⟨Hx, ⟨%Y0, Hxf⟩, Ht4⟩, ⟨Hw1, ⟨%Y1, Hw1f⟩, Ht2⟩, ⟨Hw2, ⟨%Y2, Hw2f⟩, Ht3⟩, ⟨Htx, Hpx⟩, Hty⟩ Hk
  iapply (copy m K c (src := xHM) (dst := xfM) (q := fullShare) (X := xIn m c) 4 rfl (by decide) rfl .rfl) $$ [Hx Hxf Ht4]
  · isplitr; · iexact Hc
    isplitl [Hx]; · iexact Hx
    isplitl [Hxf]; · iexact Hxf
    iexact Ht4
  iintro Hc4
  iapply (copy m K c (src := w1HM) (dst := w1fM) (q := fullShare) (X := w1In m c) 2 rfl (by decide) rfl .rfl) $$ [Hw1 Hw1f Ht2]
  · isplitr; · iexact Hc
    isplitl [Hw1]; · iexact Hw1
    isplitl [Hw1f]; · iexact Hw1f
    iexact Ht2
  iintro Hc2
  iapply (copy m K c (src := w2HM) (dst := w2fM) (q := fullShare) (X := w2In m c) 3 rfl (by decide) rfl .rfl) $$ [Hw2 Hw2f Ht3]
  · isplitr; · iexact Hc
    isplitl [Hw2]; · iexact Hw2
    isplitl [Hw2f]; · iexact Hw2f
    iexact Ht3
  iintro Hc3
  iapply (signal m K c (dev1_eq c) (d := 0) rfl 0 rfl) $$ [HO Htx Hpx]
  · isplitr; · iexact Hc
    isplitl [HO]; · iexact HO
    isplitl [Htx]; · iexact Htx
    iexact Hpx
  iintro HO
  iapply (signal m K c (dev2_eq c) (d := 1) rfl 1 rfl) $$ [HO Hty]
  · isplitr; · iexact Hc
    isplitl [HO]; · iexact HO
    isplitl [Hty]; · iexact Hty
    unfold barPay; iempintro
  iintro HO
  iapply (wpRet c)
  iapply Hk
  isplitl [HO]; · iexact HO
  isplitl [Hc4]; · iexact Hc4
  isplitl [Hc2]; · iexact Hc2
  iexact Hc3

/-! ## Part 2: the barrier; the assignment leaves; the x rows in the narrow format -/

/-- The third barrier unit is paid and the barrier waited for; the assignment rows leave; the copy of x lands and its own half is stored in the
    narrow format. -/
theorem part2 (v5 v6 v9 v10 v28 c0 : BitVec 32) {Q : _ → sProp 𝕄} :
    iprop(ctx m K ∗ owing c (O c 2)
        ∗ (tok (barCell (dg c)) 2 ∗ barPay (dg c) 2)
        ∗ (cred (tallyAt (barCell c) () 3) ∗ pos (barCell c))
        ∗ ownsTc c agM fullShare (agIn m c) ∗ anyTc c asM ∗ (tok (dCell c 7) 0 ∗ tok (dCell (xn c) 14) 0)
        ∗ (crd c 4 ∗ pos (dCell c 4)) ∗ anyTc c xbM)
      ⊢ iprop(((owing c (O c 4) ∗ semVal (barCell c) 0
              ∗ (anyTc (xn c) (topM xrM) ∗ anyTc (xn c) (botM xrM) ∗ anyTc (xn c) (crW (own c 0)) ∗ anyTc (xn c) (crW (own c 1)))
              ∗ (anyTc (dg c) (crW (own c 0)) ∗ anyTc (dg c) (crW (own c 1)))
              ∗ ownsTc c agM fullShare (agIn m c) ∗ ownsTc c asM fullShare.right (asV m c) ∗ crd c 7
              ∗ fin c 4 ∗ ownsTc c xfM fullShare (xIn m c) ∗ ownsTc c xHM fullShare (xIn m c) ∗ ownsTc c xbM fullShare (xbV m c))
            -∗ Q ⟨⟩)
          -∗ WP c (app (k0_part2 (F := F)) c v5 v6 v9 v10 (SemArray.scalar (sig.barrier 0 rfl)) v28 c0) Q) := by
  simp only [k0_part2_eq_skeleton]; unfold app k0_part2_skel
  simp only [semSignalWord, semWaitWord, Prog.lift, Prog.bind_op, Prog.bind_ret, Prog.pure_eq_ret]
  iintro ⟨#Hc, HO, ⟨Htd, Hpd⟩, ⟨Hcb, Hab⟩, Hag, ⟨%Y0, Has⟩, ⟨Ht7, Ht14⟩, ⟨Hc4, Ha4⟩, ⟨%Y1, Hxb⟩⟩ Hk
  iapply (signal m K c (dev3_eq c) (d := 2) rfl 2 rfl) $$ [HO Htd Hpd]
  · isplitr; · iexact Hc
    isplitl [HO]; · iexact HO
    isplitl [Htd]; · iexact Htd
    iexact Hpd
  iintro HO
  iapply (waitBar m K c rfl 3 (by decide)
    (P := iprop(anyTc (xn c) arM ∗ anyTc (xn c) (topM xrM) ∗ anyTc (xn c) (botM xrM) ∗ anyTc (xn c) (crW (own c 0)) ∗ anyTc (xn c) (crW (own c 1))))
    (P' := iprop(anyTc (dg c) (crW (own c 0)) ∗ anyTc (dg c) (crW (own c 1)))) .rfl .rfl) $$ [HO Hcb Hab]
  · isplitr; · iexact Hc
    isplitl [HO]; · iexact HO
    isplitl [Hcb]; · iexact Hcb
    iexact Hab
  iintro ⟨HO, Hzb, Hp0, Hp2⟩
  icases Hp0 with ⟨⟨%Z0, Har⟩, Hx0, Hx1, Hr0, Hr1⟩
  iapply (ld c (M := agM)) $$ Hag
  iintro Hag
  iapply (ldFull c (M := asM) hz2) $$ Has
  iintro Has
  iapply (stFull c (M := asM) (w := asV m c) hz2) $$ Has
  iintro Has
  ihave Has' := (owns_halves (c : Thread nD τ) asM fullShare (asV m c)).1 $$ Has
  icases Has' with ⟨Hasl, Hasr⟩
  iapply (send m K c (src := asM) (dst := arM) (q := fullShare.left) (p := xn c) (X := asV m c) (dev4_eq c) 7 14 rfl rfl (by decide) (by decide) rfl rfl rfl 3 rfl
    .rfl (Entails.of_eq (by show _ = ownsTc (xn c) arM fullShare (asV m (xn (xn c))); rw [xn_xn]))) $$ [HO Hasl Har Ht7 Ht14]
  · isplitr; · iexact Hc
    isplitl [HO]; · iexact HO
    isplitl [Hasl]; · iexact Hasl
    isplitl [Har]; · iexact Har
    isplitl [Ht7]; · iexact Ht7
    iexact Ht14
  iintro ⟨Hc7, HO⟩
  iapply (wait m K c 4 rfl (by decide) rfl 4 (by decide) (P := iprop(ownsTc c xfM fullShare (xIn m c) ∗ ownsTc c xHM fullShare (xIn m c))) .rfl) $$ [HO Hc4 Ha4]
  · isplitr; · iexact Hc
    isplitl [HO]; · iexact HO
    isplitl [Hc4]; · iexact Hc4
    iexact Ha4
  iintro ⟨HO, Hz4, Hxf, Hx⟩
  iapply (ld c (M := xfM)) $$ Hxf
  iintro Hxf
  iapply (ldFull c (M := xbM) hz2) $$ Hxb
  iintro Hxb
  iapply (stFull c (M := xbM) (w := xbV m c) hz2) $$ Hxb
  iintro Hxb
  iapply (wpRet c)
  iapply Hk
  isplitl [HO]; · iexact HO
  isplitl [Hzb]; · iexact Hzb
  isplitl [Hx0 Hx1 Hr0 Hr1]
  · isplitl [Hx0]; · iexact Hx0
    isplitl [Hx1]; · iexact Hx1
    isplitl [Hr0]; · iexact Hr0
    iexact Hr1
  isplitl [Hp2]; · iexact Hp2
  isplitl [Hag]; · iexact Hag
  isplitl [Hasr]; · iexact Hasr
  isplitl [Hc7]; · iexact Hc7
  isplitl [Hz4]; · iexact Hz4
  isplitl [Hxf]; · iexact Hxf
  isplitl [Hx]; · iexact Hx
  iexact Hxb

/-! ## Part 3: the x rows leave; the weights in the narrow format -/

/-- The two pieces of the x rows leave; the copies of the weights land and are stored in the narrow format. -/
theorem part3 (v5 v6 : BitVec 32) {Q : _ → sProp 𝕄} :
    iprop(ctx m K ∗ owing c (O c 4) ∗ ownsTc c xbM fullShare (xbV m c)
        ∗ (anyTc (xn c) (topM xrM) ∗ tok (dCell c 5) 0 ∗ tok (dCell (xn c) 12) 0)
        ∗ (anyTc (xn c) (botM xrM) ∗ tok (dCell c 6) 0 ∗ tok (dCell (xn c) 13) 0)
        ∗ (crd c 2 ∗ pos (dCell c 2) ∗ anyTc c w1M)
        ∗ (crd c 3 ∗ pos (dCell c 3) ∗ anyTc c w2M))
      ⊢ iprop(((owing c (O c 6) ∗ ownsTc c xbM fullShare.right (xbV m c) ∗ crd c 5 ∗ crd c 6
              ∗ (fin c 2 ∗ ownsTc c w1fM fullShare (w1In m c) ∗ ownsTc c w1HM fullShare (w1In m c) ∗ ownsTc c w1M fullShare (w1V m c))
              ∗ (fin c 3 ∗ ownsTc c w2fM fullShare (w2In m c) ∗ ownsTc c w2HM fullShare (w2In m c) ∗ ownsTc c w2M fullShare (w2V m c)))
            -∗ Q ⟨⟩)
          -∗ WP c (app (k0_part3 (F := F)) c v5 v6) Q) := by
  simp only [k0_part3_eq_skeleton]; unfold app k0_part3_skel
  simp only [semSignalWord, semWaitWord, Prog.lift, Prog.bind_op, Prog.bind_ret, Prog.pure_eq_ret]
  iintro ⟨#Hc, HO, Hxb, ⟨⟨%Y0, Hr0⟩, Ht5, Ht12⟩, ⟨⟨%Y1, Hr1⟩, Ht6, Ht13⟩, ⟨Hc2, Ha2, ⟨%Y2, Hw1⟩⟩, ⟨Hc3, Ha3, ⟨%Y3, Hw2⟩⟩⟩ Hk
  ihave Hxb' := (owns_halves (c : Thread nD τ) xbM fullShare (xbV m c)).1 $$ Hxb
  icases Hxb' with ⟨Hxbl, Hxbr⟩
  ihave Hxw := (split2 c) $$ Hxbl
  icases Hxw with ⟨Hx0, Hx1⟩
  iapply (send m K c (src := topM xbM) (dst := topM xrM) (q := fullShare.left) (p := xn c) (X := part rT (xbV m c)) (dev5_eq c) 5 12 rfl rfl (by decide) (by decide) rfl rfl rfl 4 rfl
    .rfl (Entails.of_eq (by show _ = ownsTc (xn c) (topM xrM) fullShare (part rT (xbV m (xn (xn c)))); rw [xn_xn]))) $$ [HO Hx0 Hr0 Ht5 Ht12]
  · isplitr; · iexact Hc
    isplitl [HO]; · iexact HO
    isplitl [Hx0]; · iexact Hx0
    isplitl [Hr0]; · iexact Hr0
    isplitl [Ht5]; · iexact Ht5
    iexact Ht12
  iintro ⟨Hc5, HO⟩
  iapply (send m K c (src := botM xbM) (dst := botM xrM) (q := fullShare.left) (p := xn c) (X := part rB (xbV m c)) (dev6_eq c) 6 13 rfl rfl (by decide) (by decide) rfl rfl rfl 5 rfl
    .rfl (Entails.of_eq (by show _ = ownsTc (xn c) (botM xrM) fullShare (part rB (xbV m (xn (xn c)))); rw [xn_xn]))) $$ [HO Hx1 Hr1 Ht6 Ht13]
  · isplitr; · iexact Hc
    isplitl [HO]; · iexact HO
    isplitl [Hx1]; · iexact Hx1
    isplitl [Hr1]; · iexact Hr1
    isplitl [Ht6]; · iexact Ht6
    iexact Ht13
  iintro ⟨Hc6, HO⟩
  iapply (wait m K c 2 rfl (by decide) rfl 6 (by decide) (P := iprop(ownsTc c w1fM fullShare (w1In m c) ∗ ownsTc c w1HM fullShare (w1In m c))) .rfl) $$ [HO Hc2 Ha2]
  · isplitr; · iexact Hc
    isplitl [HO]; · iexact HO
    isplitl [Hc2]; · iexact Hc2
    iexact Ha2
  iintro ⟨HO, Hz2, Hw1f, Hw1H⟩
  iapply (ldFull c (M := w1fM) hz3) $$ Hw1f
  iintro Hw1f
  iapply (ldFull c (M := w1M) hz3) $$ Hw1
  iintro Hw1
  iapply (stFull c (M := w1M) (w := w1V m c) hz3) $$ Hw1
  iintro Hw1
  iapply (wait m K c 3 rfl (by decide) rfl 6 (by decide) (P := iprop(ownsTc c w2fM fullShare (w2In m c) ∗ ownsTc c w2HM fullShare (w2In m c))) .rfl) $$ [HO Hc3 Ha3]
  · isplitr; · iexact Hc
    isplitl [HO]; · iexact HO
    isplitl [Hc3]; · iexact Hc3
    iexact Ha3
  iintro ⟨HO, Hz3, Hw2f, Hw2H⟩
  iapply (ldFull c (M := w2fM) hz3) $$ Hw2f
  iintro Hw2f
  iapply (ldFull c (M := w2M) hz3) $$ Hw2
  iintro Hw2
  iapply (stFull c (M := w2M) (w := w2V m c) hz3) $$ Hw2
  iintro Hw2
  iapply (wpRet c)
  iapply Hk
  isplitl [HO]; · iexact HO
  isplitl [Hxbr]; · iexact Hxbr
  isplitl [Hc5]; · iexact Hc5
  isplitl [Hc6]; · iexact Hc6
  isplitl [Hz2 Hw1f Hw1H Hw1]
  · isplitl [Hz2]; · iexact Hz2
    isplitl [Hw1f]; · iexact Hw1f
    isplitl [Hw1H]; · iexact Hw1H
    iexact Hw1
  isplitl [Hz3]; · iexact Hz3
  isplitl [Hw2f]; · iexact Hw2f
  isplitl [Hw2H]; · iexact Hw2H
  iexact Hw2

end Cert.Moe

end
-- ==== Proof.PartsB.lean ====
/- The kernel's later parts on one device: its experts on its own rows, on the rows received and on the other half, the
   return of the results, and the output's four blocks. -/
module

public import proofs.«01_k».proof.Proof.PartsA

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 18 → ℕ) (c : Dev nD)

/-- A block of the results' landing buffer carries one credit, wherever its offset is. -/
theorem cr_credit {off : Fin 2 → ℕ} (p : ∀ i, off i + S128x512.size i ≤ S512x512.size i) :
    (crM.slice (Rect.unit (s := S512x512) off S128x512.size p) (fun _ => rfl)).view.dmaCredit = amt 15 := by
  rw [show (crM.slice (Rect.unit (s := S512x512) off S128x512.size p) (fun _ => rfl)).view.dmaCredit
      = sig.dmaCredit .tc _ crM.view.buf S128x512 .bf16 from rfl]
  rfl

/-- Part 4: the first expert on the device's own rows, and the second's hidden layer. -/
theorem part4 {Q : _ → sProp 𝕄} :
    iprop(ownsTc c asM fullShare.right (asV m c) ∗ ownsTc c xbM fullShare.right (xbV m c) ∗ ownsTc c w1M fullShare (w1V m c) ∗ ownsTc c w2M fullShare (w2V m c))
      ⊢ iprop(((ownsTc c asM fullShare.right (asV m c) ∗ ownsTc c xbM fullShare.right (xbV m c) ∗ ownsTc c w1M fullShare (w1V m c) ∗ ownsTc c w2M fullShare (w2V m c)) -∗ Q ⟨k0_pay5 (xw c) (asV m c) (xbV m c) (w1a m c) (w2a m c), k0_pay6 (xw c) (asV m c) (xbV m c) (w1b m c)⟩)
          -∗ WP c (app (k0_part4 (F := F)) (xw c)) Q) := by
  simp only [k0_part4_eq_skeleton]; unfold app k0_part4_skel
  simp only [semSignalWord, semWaitWord, Prog.lift, Prog.bind_op, Prog.bind_ret, Prog.pure_eq_ret]
  iintro ⟨Has, Hxb, Hw1, Hw2⟩ Hk
  iapply (ldFull c (M := asM) hz2) $$ Has
  iintro Has
  iapply (ldFull c (M := xbM) hz2) $$ Hxb
  iintro Hxb
  iapply (ld c (M := w1M)) $$ Hw1
  iintro Hw1
  iapply (ld c (M := w2M)) $$ Hw2
  iintro Hw2
  iapply (ldFull c (M := xbM) hz2) $$ Hxb
  iintro Hxb
  iapply (ld c (M := w1M)) $$ Hw1
  iintro Hw1
  iapply (wpRet c)
  iapply Hk
  isplitl [Has]; · iexact Has
  isplitl [Hxb]; · iexact Hxb
  isplitl [Hw1]; · iexact Hw1
  iexact Hw2

set_option maxHeartbeats 2000000 in
/-- Part 5: the second expert joins; the assignment and the first 128 x rows of `xn` have landed. -/
theorem part5 (v5 v6 : BitVec 32) (v106 : FVec F S256x512 .f32) (v121 : FVec F S256x1024 .bf16) {Q : _ → sProp 𝕄} :
    iprop(ctx m K ∗ owing c (O c 6) ∗ ownsTc c w1M fullShare (w1V m c) ∗ ownsTc c w2M fullShare (w2V m c) ∗ (crd c 14 ∗ pos (dCell c 14)) ∗ (crd c 12 ∗ pos (dCell c 12)))
      ⊢ iprop(((owing c (O c 6) ∗ ownsTc c w1M fullShare (w1V m c) ∗ ownsTc c w2M fullShare (w2V m c) ∗ (fin c 14 ∗ ownsTc c arM fullShare (asV m (xn c))) ∗ (fin c 12 ∗ ownsTc c (topM xrM) fullShare (part rT (xbV m (xn c))))) -∗ Q ⟨k0_pay7 v106 v121 (w2b m c), part aT (asV m (xn c)), k0_pay8 (xw c) (part aT (asV m (xn c))) (part rT (xbV m (xn c))) (w1a m c)⟩)
          -∗ WP c (app (k0_part5 (F := F)) (xw c) v5 v6 v106 v121) Q) := by
  simp only [k0_part5_eq_skeleton]; unfold app k0_part5_skel
  simp only [semSignalWord, semWaitWord, Prog.lift, Prog.bind_op, Prog.bind_ret, Prog.pure_eq_ret]
  iintro ⟨#Hc, HO, Hw1, Hw2, ⟨Hc14, Ha14⟩, ⟨Hc12, Ha12⟩⟩ Hk
  iapply (ld c (M := w2M)) $$ Hw2
  iintro Hw2
  iapply (wait m K c (wdst := arM) (wsrc := asM) 14 rfl (by decide) rfl 6 (by decide) (P := ownsTc c arM fullShare (asV m (xn c))) .rfl) $$ [HO Hc14 Ha14]
  · isplitr; · iexact Hc
    isplitl [HO]; · iexact HO
    isplitl [Hc14]; · iexact Hc14
    iexact Ha14
  iintro ⟨HO, Hz14, Har⟩
  iapply (wait m K c (wdst := topM xrM) (wsrc := topM xbM) 12 rfl (by decide) rfl 6 (by decide) (P := ownsTc c (topM xrM) fullShare (part rT (xbV m (xn c)))) .rfl) $$ [HO Hc12 Ha12]
  · isplitr; · iexact Hc
    isplitl [HO]; · iexact HO
    isplitl [Hc12]; · iexact Hc12
    iexact Ha12
  iintro ⟨HO, Hz12, Hxr⟩
  iapply (ld c (M := arM)) $$ Har
  iintro Har
  iapply (ldWin c (M := xrM)) $$ Hxr
  iintro Hxr
  iapply (ld c (M := w1M)) $$ Hw1
  iintro Hw1
  iapply (wpRet c)
  iapply Hk
  isplitl [HO]; · iexact HO
  isplitl [Hw1]; · iexact Hw1
  isplitl [Hw2]; · iexact Hw2
  isplitl [Hz14 Har]
  · isplitl [Hz14]; · iexact Hz14
    iexact Har
  isplitl [Hz12]; · iexact Hz12
  iexact Hxr

set_option maxHeartbeats 2000000 in
/-- Part 6: both experts on the first 128 received rows, stored for sending. -/
theorem part6 (v6 v10 : BitVec 32) {Q : _ → sProp 𝕄} :
    iprop(ownsTc c w1M fullShare (w1V m c) ∗ ownsTc c w2M fullShare (w2V m c) ∗ ownsTc c (topM xrM) fullShare (part rT (xbV m (xn c))) ∗ anyTc c (topM csM))
      ⊢ iprop(((ownsTc c w1M fullShare (w1V m c) ∗ ownsTc c w2M fullShare (w2V m c) ∗ ownsTc c (topM xrM) fullShare (part rT (xbV m (xn c))) ∗ ownsTc c (topM csM) fullShare (cs0V m c)) -∗ Q ⟨Scalar.addi 0#32 (Scalar.muli v6 2#32), 1#32⟩)
          -∗ WP c (app (k0_part6 (F := F)) (xw c) v6 v10 (part aT (asV m (xn c))) (k0_pay8 (xw c) (part aT (asV m (xn c))) (part rT (xbV m (xn c))) (w1a m c))) Q) := by
  simp only [k0_part6_eq_skeleton]; unfold app k0_part6_skel
  simp only [semSignalWord, semWaitWord, Prog.lift, Prog.bind_op, Prog.bind_ret, Prog.pure_eq_ret]
  iintro ⟨Hw1, Hw2, Hxr, ⟨%Y, Hcs⟩⟩ Hk
  iapply (ld c (M := w2M)) $$ Hw2
  iintro Hw2
  iapply (ldWin c (M := xrM)) $$ Hxr
  iintro Hxr
  iapply (ld c (M := w1M)) $$ Hw1
  iintro Hw1
  iapply (ld c (M := w2M)) $$ Hw2
  iintro Hw2
  iapply (ldWin c (M := csM)) $$ Hcs
  iintro Hcs
  iapply (stWin c (M := csM) (w := cs0V m c)) $$ Hcs
  iintro Hcs
  iapply (wpRet c)
  iapply Hk
  isplitl [Hw1]; · iexact Hw1
  isplitl [Hw2]; · iexact Hw2
  isplitl [Hxr]; · iexact Hxr
  iexact Hcs

set_option maxHeartbeats 2000000 in
/-- Part 7: those results leave for `xn` and `dg`; the last 128 x rows of `xn` have landed. -/
theorem part7 (v5 v6 v8 v9 v184 c1 : BitVec 32) {Q : _ → sProp 𝕄} :
    iprop(ctx m K ∗ owing c (O c 6) ∗ ownsTc c (topM csM) fullShare (cs0V m c) ∗ (anyTc (xn c) (crW (own c 0)) ∗ tok (dCell c 8) 0 ∗ tok (dCell (xn c) 15) 0)
        ∗ (anyTc (dg c) (crW (own c 0)) ∗ tok (dCell c 10) 0 ∗ tok (dCell (dg c) 17) 0) ∗ (crd c 13 ∗ pos (dCell c 13)) ∗ ownsTc c arM fullShare (asV m (xn c)))
      ⊢ iprop(((owing c (O c 8) ∗ crd c 8 ∗ crd c 10 ∗ fin c 13 ∗ ownsTc c (botM xrM) fullShare (part rB (xbV m (xn c))) ∗ ownsTc c arM fullShare (asV m (xn c))) -∗ Q ⟨part aB (asV m (xn c)), part rB (xbV m (xn c)), k0_pay10 (xw c)⟩)
          -∗ WP c (app (k0_part7 (F := F)) c (xw c) v5 v6 v8 v9 v184 c1) Q) := by
  simp only [k0_part7_eq_skeleton]; unfold app k0_part7_skel
  simp only [semSignalWord, semWaitWord, Prog.lift, Prog.bind_op, Prog.bind_ret, Prog.pure_eq_ret]
  iintro ⟨#Hc, HO, Hcs, ⟨⟨%Y0, Hr0⟩, Ht8, Ht15⟩, ⟨⟨%Y1, Hr1⟩, Ht10, Ht17⟩, ⟨Hc13, Ha13⟩, Har⟩ Hk
  ihave Hcs' := (owns_halves (c : Thread nD τ) (topM csM) fullShare (cs0V m c)).1 $$ Hcs
  icases Hcs' with ⟨Hl, Hr⟩
  iapply (send m K c (src := topM csM) (dst := crW (own c 0)) (q := fullShare.left) (p := xn c) (X := cs0V m c) (dev7_eq c) 8 15 rfl rfl (by decide) (by decide) rfl rfl (crW_of (off3_0 c) _ _) 6 rfl
    .rfl (Entails.of_eq (by show _ = ownsTc (xn c) (crW (own (xn c) 0)) fullShare (cs0V m (xn (xn c))); rw [own_xn, xn_xn]))) $$ [HO Hl Hr0 Ht8 Ht15]
  · isplitr; · iexact Hc
    isplitl [HO]; · iexact HO
    isplitl [Hl]; · iexact Hl
    isplitl [Hr0]; · iexact Hr0
    isplitl [Ht8]; · iexact Ht8
    iexact Ht15
  iintro ⟨Hc8, HO⟩
  iapply (send m K c (src := topM csM) (dst := crW (own c 0)) (q := fullShare.right) (p := dg c) (X := cs0V m c) (dev8_eq c) 10 17 rfl rfl (by decide) (by decide) rfl rfl (crW_of (off3_0 c) _ _) 7 rfl
    .rfl (Entails.of_eq (by show _ = ownsTc (dg c) (crW (oth (dg c) 0)) fullShare (cs0V m (dg (dg c))); rw [oth_dg, dg_dg]))) $$ [HO Hr Hr1 Ht10 Ht17]
  · isplitr; · iexact Hc
    isplitl [HO]; · iexact HO
    isplitl [Hr]; · iexact Hr
    isplitl [Hr1]; · iexact Hr1
    isplitl [Ht10]; · iexact Ht10
    iexact Ht17
  iintro ⟨Hc10, HO⟩
  iapply (wait m K c (wdst := botM xrM) (wsrc := botM xbM) 13 rfl (by decide) rfl 8 (by decide) (P := ownsTc c (botM xrM) fullShare (part rB (xbV m (xn c)))) .rfl) $$ [HO Hc13 Ha13]
  · isplitr; · iexact Hc
    isplitl [HO]; · iexact HO
    isplitl [Hc13]; · iexact Hc13
    iexact Ha13
  iintro ⟨HO, Hz13, Hxr⟩
  iapply (ld c (M := arM)) $$ Har
  iintro Har
  iapply (ldWin c (M := xrM)) $$ Hxr
  iintro Hxr
  iapply (wpRet c)
  iapply Hk
  isplitl [HO]; · iexact HO
  isplitl [Hc8]; · iexact Hc8
  isplitl [Hc10]; · iexact Hc10
  isplitl [Hz13]; · iexact Hz13
  isplitl [Hxr]; · iexact Hxr
  iexact Har

/-- Part 8: both experts on the last 128 received rows. -/
theorem part8 {Q : _ → sProp 𝕄} :
    iprop(ownsTc c w1M fullShare (w1V m c) ∗ ownsTc c w2M fullShare (w2V m c) ∗ ownsTc c (botM xrM) fullShare (part rB (xbV m (xn c))))
      ⊢ iprop(((ownsTc c w1M fullShare (w1V m c) ∗ ownsTc c w2M fullShare (w2V m c) ∗ ownsTc c (botM xrM) fullShare (part rB (xbV m (xn c)))) -∗ Q (k0_pay11 (xw c) (part aB (asV m (xn c))) (part rB (xbV m (xn c))) (k0_pay10 (xw c)) (w1a m c) (w2a m c) (part rB (xbV m (xn c))) (w1b m c) (w2b m c)))
          -∗ WP c (app (k0_part8 (F := F)) (xw c) (part aB (asV m (xn c))) (part rB (xbV m (xn c))) (k0_pay10 (xw c))) Q) := by
  simp only [k0_part8_eq_skeleton]; unfold app k0_part8_skel
  simp only [semSignalWord, semWaitWord, Prog.lift, Prog.bind_op, Prog.bind_ret, Prog.pure_eq_ret]
  iintro ⟨Hw1, Hw2, Hxr⟩ Hk
  iapply (ld c (M := w1M)) $$ Hw1
  iintro Hw1
  iapply (ld c (M := w2M)) $$ Hw2
  iintro Hw2
  iapply (ldWin c (M := xrM)) $$ Hxr
  iintro Hxr
  iapply (ld c (M := w1M)) $$ Hw1
  iintro Hw1
  iapply (ld c (M := w2M)) $$ Hw2
  iintro Hw2
  iapply (wpRet c)
  iapply Hk
  isplitl [Hw1]; · iexact Hw1
  isplitl [Hw2]; · iexact Hw2
  iexact Hxr

set_option maxHeartbeats 2000000 in
/-- Part 9: they are stored and leave; the other half of the rows is read. -/
theorem part9 (v5 v6 v8 v9 v10 v12 : BitVec 32) {Q : _ → sProp 𝕄} :
    iprop(ctx m K ∗ owing c (O c 8) ∗ anyTc c (botM csM) ∗ (anyTc (xn c) (crW (own c 1)) ∗ tok (dCell c 9) 0 ∗ tok (dCell (xn c) 16) 0)
        ∗ (anyTc (dg c) (crW (own c 1)) ∗ tok (dCell c 11) 0 ∗ tok (dCell (dg c) 18) 0) ∗ ownsTc c agM fullShare (agIn m c) ∗ ownsTc c xfM fullShare (xIn m c))
      ⊢ iprop(((owing c (O c 10) ∗ crd c 9 ∗ crd c 11 ∗ ownsTc c agM fullShare (agIn m c) ∗ ownsTc c xfM fullShare (xIn m c)) -∗ Q ⟨k0_pay13 (aoV m c), k0_pay14 (xoV m c), Scalar.ofBits .bf16 0x0000#16, k0_pay15 (xw c) (aoV m c)⟩)
          -∗ WP c (app (k0_part9 (F := F)) c (xw c) v5 v6 v8 v9 v10 v12 (k0_pay11 (xw c) (part aB (asV m (xn c))) (part rB (xbV m (xn c))) (k0_pay10 (xw c)) (w1a m c) (w2a m c) (part rB (xbV m (xn c))) (w1b m c) (w2b m c))) Q) := by
  simp only [k0_part9_eq_skeleton]; unfold app k0_part9_skel
  simp only [semSignalWord, semWaitWord, Prog.lift, Prog.bind_op, Prog.bind_ret, Prog.pure_eq_ret]
  iintro ⟨#Hc, HO, ⟨%Y, Hcs⟩, ⟨⟨%Y0, Hr0⟩, Ht9, Ht16⟩, ⟨⟨%Y1, Hr1⟩, Ht11, Ht18⟩, Hag, Hxf⟩ Hk
  iapply (ldWin c (M := csM)) $$ Hcs
  iintro Hcs
  iapply (stWin c (M := csM) (w := cs1V m c)) $$ Hcs
  iintro Hcs
  ihave Hcs' := (show ownsTc c (botM csM) fullShare (k0_pay12 (k0_pay11 (xw c) (part aB (asV m (xn c))) (part rB (xbV m (xn c))) (k0_pay10 (xw c)) (w1a m c) (w2a m c) (part rB (xbV m (xn c))) (w1b m c) (w2b m c)))
      ⊢ iprop(ownsTc c (botM csM) fullShare.left (cs1V m c) ∗ ownsTc c (botM csM) fullShare.right (cs1V m c)) from (owns_halves (c : Thread nD τ) (botM csM) fullShare (cs1V m c)).1) $$ Hcs
  icases Hcs' with ⟨Hl, Hr⟩
  iapply (send m K c (src := botM csM) (dst := crW (own c 1)) (q := fullShare.left) (p := xn c) (X := cs1V m c) (dev9_eq c) 9 16 rfl rfl (by decide) (by decide) rfl rfl (crW_of (off3_1 c) _ _) 8 rfl
    .rfl (Entails.of_eq (by show _ = ownsTc (xn c) (crW (own (xn c) 1)) fullShare (cs1V m (xn (xn c))); rw [own_xn, xn_xn]))) $$ [HO Hl Hr0 Ht9 Ht16]
  · isplitr; · iexact Hc
    isplitl [HO]; · iexact HO
    isplitl [Hl]; · iexact Hl
    isplitl [Hr0]; · iexact Hr0
    isplitl [Ht9]; · iexact Ht9
    iexact Ht16
  iintro ⟨Hc9, HO⟩
  iapply (send m K c (src := botM csM) (dst := crW (own c 1)) (q := fullShare.right) (p := dg c) (X := cs1V m c) (dev10_eq c) 11 18 rfl rfl (by decide) (by decide) rfl rfl (crW_of (off3_1 c) _ _) 9 rfl
    .rfl (Entails.of_eq (by show _ = ownsTc (dg c) (crW (oth (dg c) 1)) fullShare (cs1V m (dg (dg c))); rw [oth_dg, dg_dg]))) $$ [HO Hr Hr1 Ht11 Ht18]
  · isplitr; · iexact Hc
    isplitl [HO]; · iexact HO
    isplitl [Hr]; · iexact Hr
    isplitl [Hr1]; · iexact Hr1
    isplitl [Ht11]; · iexact Ht11
    iexact Ht18
  iintro ⟨Hc11, HO⟩
  iapply (ld c (M := agM)) $$ Hag
  iintro Hag
  iapply (ld c (M := xfM)) $$ Hxf
  iintro Hxf
  iapply (wpRet c)
  iapply Hk
  isplitl [HO]; · iexact HO
  isplitl [Hc9]; · iexact Hc9
  isplitl [Hc11]; · iexact Hc11
  isplitl [Hag]; · iexact Hag
  iexact Hxf

/-- Part 10: both experts on the other half of the rows. -/
theorem part10 (v5 v6 : BitVec 32) (v276 : IVec S256x1 32) (v279 : FVec F S256x512 .bf16) (cst : F .bf16) (v284 : IVec S256x1 1) {Q : _ → sProp 𝕄} :
    iprop(ownsTc c w1M fullShare (w1V m c) ∗ ownsTc c w2M fullShare (w2V m c))
      ⊢ iprop(((ownsTc c w1M fullShare (w1V m c) ∗ ownsTc c w2M fullShare (w2V m c)) -∗ Q (k0_pay16 (xw c) v276 v279 cst v284 (w1a m c) (w2a m c) (w1b m c) (w2b m c)))
          -∗ WP c (app (k0_part10 (F := F)) (xw c) v5 v6 v276 v279 cst v284) Q) := by
  simp only [k0_part10_eq_skeleton]; unfold app k0_part10_skel
  simp only [semSignalWord, semWaitWord, Prog.lift, Prog.bind_op, Prog.bind_ret, Prog.pure_eq_ret]
  iintro ⟨Hw1, Hw2⟩ Hk
  iapply (ld c (M := w1M)) $$ Hw1
  iintro Hw1
  iapply (ld c (M := w2M)) $$ Hw2
  iintro Hw2
  iapply (ld c (M := w1M)) $$ Hw1
  iintro Hw1
  iapply (ld c (M := w2M)) $$ Hw2
  iintro Hw2
  iapply (wpRet c)
  iapply Hk
  isplitl [Hw1]; · iexact Hw1
  iexact Hw2

set_option maxHeartbeats 2000000 in
/-- Part 11: the results of `xn` on the device's own rows land and complete the output's own half. -/
theorem part11 (v5 v6 v8 v9 v10 : BitVec 32) (v125 : FVec F S256x512 .f32) {Q : _ → sProp 𝕄} :
    iprop(ctx m K ∗ owing c (O c 10) ∗ (crd c 15 ∗ pos (dCell c 15) ∗ anyTc c (blkM oM (own c 0))) ∗ (crd c 16 ∗ pos (dCell c 16) ∗ anyTc c (blkM oM (own c 1))))
      ⊢ iprop(((owing c (O c 10)
            ∗ (fin c 15 ∗ ownsTc c (crW (own c 0)) fullShare (cs0V m (xn c)) ∗ ownsTc c (blkM oM (own c 0)) fullShare (k0_pay17 v125 (cs0V m (xn c))))
            ∗ (fin c 16 ∗ ownsTc c (crW (own c 1)) fullShare (cs1V m (xn c)) ∗ ownsTc c (blkM oM (own c 1)) fullShare (k0_pay18 v125 (cs1V m (xn c))))) -∗ Q ⟨⟩)
          -∗ WP c (app (k0_part11 (F := F)) c v5 v6 v8 v9 v10 v125) Q) := by
  simp only [k0_part11_eq_skeleton]; unfold app k0_part11_skel
  simp only [semSignalWord, semWaitWord, Prog.lift, Prog.bind_op, Prog.bind_ret, Prog.pure_eq_ret]
  iintro ⟨#Hc, HO, ⟨Hc15, Ha15, ⟨%Y0, Ho0⟩⟩, ⟨Hc16, Ha16, ⟨%Y1, Ho1⟩⟩⟩ Hk
  iapply (wait m K c (wdst := crM.slice (Rect.unit (s := S512x512) (k0_off3 c 0#32) S128x512.size (k0_off3_inb c 0)) (fun _ => rfl)) (wsrc := topM csM) 15 rfl (by decide) (cr_credit _) 10 (by decide) (P := ownsTc c (crW (own c 0)) fullShare (cs0V m (xn c))) .rfl) $$ [HO Hc15 Ha15]
  · isplitr; · iexact Hc
    isplitl [HO]; · iexact HO
    isplitl [Hc15]; · iexact Hc15
    iexact Ha15
  iintro ⟨HO, Hz15, Hr0⟩
  ihave Hr0 := (Entails.of_eq (owns_off c (off := k0_off6 c 0#32) (off6_0 c) (k0_off6_inb c 0))) $$ Hr0
  iapply (ldWin c (M := crM)) $$ Hr0
  iintro Hr0
  ihave Hr0 := (Entails.of_eq (owns_off c (off := k0_off6 c 0#32) (off6_0 c) (k0_off6_inb c 0)).symm) $$ Hr0
  ihave Ho0 := (Entails.of_eq (owns_off c (off := k0_off6 c 0#32) (off6_0 c) (k0_off6_inb c 0))) $$ Ho0
  iapply (ldWin c (M := oM)) $$ Ho0
  iintro Ho0
  iapply (stWin c (M := oM) (w := k0_pay17 v125 (cs0V m (xn c)))) $$ Ho0
  iintro Ho0
  ihave Ho0 := (Entails.of_eq (owns_off c (off := k0_off6 c 0#32) (off6_0 c) (k0_off6_inb c 0)).symm) $$ Ho0
  iapply (wait m K c (wdst := crM.slice (Rect.unit (s := S512x512) (k0_off3 c 128#32) S128x512.size (k0_off3_inb c 1)) (fun _ => rfl)) (wsrc := botM csM) 16 rfl (by decide) (cr_credit _) 10 (by decide) (P := ownsTc c (crW (own c 1)) fullShare (cs1V m (xn c))) .rfl) $$ [HO Hc16 Ha16]
  · isplitr; · iexact Hc
    isplitl [HO]; · iexact HO
    isplitl [Hc16]; · iexact Hc16
    iexact Ha16
  iintro ⟨HO, Hz16, Hr1⟩
  ihave Hr1 := (Entails.of_eq (owns_off c (off := k0_off6 c 128#32) (off6_1 c) (k0_off6_inb c 1))) $$ Hr1
  iapply (ldWin c (M := crM)) $$ Hr1
  iintro Hr1
  ihave Hr1 := (Entails.of_eq (owns_off c (off := k0_off6 c 128#32) (off6_1 c) (k0_off6_inb c 1)).symm) $$ Hr1
  ihave Ho1 := (Entails.of_eq (owns_off c (off := k0_off6 c 128#32) (off6_1 c) (k0_off6_inb c 1))) $$ Ho1
  iapply (ldWin c (M := oM)) $$ Ho1
  iintro Ho1
  iapply (stWin c (M := oM) (w := k0_pay18 v125 (cs1V m (xn c)))) $$ Ho1
  iintro Ho1
  ihave Ho1 := (Entails.of_eq (owns_off c (off := k0_off6 c 128#32) (off6_1 c) (k0_off6_inb c 1)).symm) $$ Ho1
  iapply (wpRet c)
  iapply Hk
  isplitl [HO]; · iexact HO
  isplitl [Hz15 Hr0 Ho0]
  · isplitl [Hz15]; · iexact Hz15
    isplitl [Hr0]; · iexact Hr0
    iexact Ho0
  isplitl [Hz16]; · iexact Hz16
  isplitl [Hr1]; · iexact Hr1
  iexact Ho1

set_option maxHeartbeats 2000000 in
/-- Part 12: the results of `dg` on the other half land and complete it. -/
theorem part12 (v8 v9 v12 : BitVec 32) (v314 : FVec F S256x512 .f32) {Q : _ → sProp 𝕄} :
    iprop(ctx m K ∗ owing c (O c 10) ∗ (crd c 17 ∗ pos (dCell c 17) ∗ anyTc c (blkM oM (oth c 0))) ∗ (crd c 18 ∗ pos (dCell c 18) ∗ anyTc c (blkM oM (oth c 1))))
      ⊢ iprop(((owing c (O c 10)
            ∗ (fin c 17 ∗ ownsTc c (crW (oth c 0)) fullShare (cs0V m (dg c)) ∗ ownsTc c (blkM oM (oth c 0)) fullShare (k0_pay19 v314 (cs0V m (dg c))))
            ∗ (fin c 18 ∗ ownsTc c (crW (oth c 1)) fullShare (cs1V m (dg c)) ∗ ownsTc c (blkM oM (oth c 1)) fullShare (k0_pay20 v314 (cs1V m (dg c))))) -∗ Q ⟨⟩)
          -∗ WP c (app (k0_part12 (F := F)) c v8 v9 v12 v314) Q) := by
  simp only [k0_part12_eq_skeleton]; unfold app k0_part12_skel
  simp only [semSignalWord, semWaitWord, Prog.lift, Prog.bind_op, Prog.bind_ret, Prog.pure_eq_ret]
  iintro ⟨#Hc, HO, ⟨Hc17, Ha17, ⟨%Y0, Ho0⟩⟩, ⟨Hc18, Ha18, ⟨%Y1, Ho1⟩⟩⟩ Hk
  iapply (wait m K c (wdst := crM.slice (Rect.unit (s := S512x512) (k0_off3 c 0#32) S128x512.size (k0_off3_inb c 0)) (fun _ => rfl)) (wsrc := topM csM) 17 rfl (by decide) (cr_credit _) 10 (by decide) (P := ownsTc c (crW (oth c 0)) fullShare (cs0V m (dg c))) .rfl) $$ [HO Hc17 Ha17]
  · isplitr; · iexact Hc
    isplitl [HO]; · iexact HO
    isplitl [Hc17]; · iexact Hc17
    iexact Ha17
  iintro ⟨HO, Hz17, Hr0⟩
  ihave Hr0 := (Entails.of_eq (owns_off c (off := k0_off7 c 0#32) (off7_0 c) (k0_off7_inb c 0))) $$ Hr0
  iapply (ldWin c (M := crM)) $$ Hr0
  iintro Hr0
  ihave Hr0 := (Entails.of_eq (owns_off c (off := k0_off7 c 0#32) (off7_0 c) (k0_off7_inb c 0)).symm) $$ Hr0
  ihave Ho0 := (Entails.of_eq (owns_off c (off := k0_off7 c 0#32) (off7_0 c) (k0_off7_inb c 0))) $$ Ho0
  iapply (ldWin c (M := oM)) $$ Ho0
  iintro Ho0
  iapply (stWin c (M := oM) (w := k0_pay19 v314 (cs0V m (dg c)))) $$ Ho0
  iintro Ho0
  ihave Ho0 := (Entails.of_eq (owns_off c (off := k0_off7 c 0#32) (off7_0 c) (k0_off7_inb c 0)).symm) $$ Ho0
  iapply (wait m K c (wdst := crM.slice (Rect.unit (s := S512x512) (k0_off3 c 128#32) S128x512.size (k0_off3_inb c 1)) (fun _ => rfl)) (wsrc := botM csM) 18 rfl (by decide) (cr_credit _) 10 (by decide) (P := ownsTc c (crW (oth c 1)) fullShare (cs1V m (dg c))) .rfl) $$ [HO Hc18 Ha18]
  · isplitr; · iexact Hc
    isplitl [HO]; · iexact HO
    isplitl [Hc18]; · iexact Hc18
    iexact Ha18
  iintro ⟨HO, Hz18, Hr1⟩
  ihave Hr1 := (Entails.of_eq (owns_off c (off := k0_off7 c 128#32) (off7_1 c) (k0_off7_inb c 1))) $$ Hr1
  iapply (ldWin c (M := crM)) $$ Hr1
  iintro Hr1
  ihave Hr1 := (Entails.of_eq (owns_off c (off := k0_off7 c 128#32) (off7_1 c) (k0_off7_inb c 1)).symm) $$ Hr1
  ihave Ho1 := (Entails.of_eq (owns_off c (off := k0_off7 c 128#32) (off7_1 c) (k0_off7_inb c 1))) $$ Ho1
  iapply (ldWin c (M := oM)) $$ Ho1
  iintro Ho1
  iapply (stWin c (M := oM) (w := k0_pay20 v314 (cs1V m (dg c)))) $$ Ho1
  iintro Ho1
  ihave Ho1 := (Entails.of_eq (owns_off c (off := k0_off7 c 128#32) (off7_1 c) (k0_off7_inb c 1)).symm) $$ Ho1
  iapply (wpRet c)
  iapply Hk
  isplitl [HO]; · iexact HO
  isplitl [Hz17 Hr0 Ho0]
  · isplitl [Hz17]; · iexact Hz17
    isplitl [Hr0]; · iexact Hr0
    iexact Ho0
  isplitl [Hz18]; · iexact Hz18
  isplitl [Hr1]; · iexact Hr1
  iexact Ho1

set_option maxHeartbeats 2000000 in
/-- Part 13: the departures' waits, the lent shares back. -/
theorem part13 {Q : _ → sProp 𝕄} :
    iprop(ctx m K ∗ owing c (O c 10) ∗ (crd c 5 ∗ pos (dCell c 5)) ∗ (crd c 6 ∗ pos (dCell c 6)) ∗ (crd c 8 ∗ pos (dCell c 8)) ∗ (crd c 9 ∗ pos (dCell c 9)) ∗ (crd c 10 ∗ pos (dCell c 10)) ∗ (crd c 11 ∗ pos (dCell c 11)))
      ⊢ iprop(((owing c (O c 10) ∗ (fin c 5 ∗ ownsTc c (topM xbM) fullShare.left (part rT (xbV m c)))
            ∗ (fin c 6 ∗ ownsTc c (botM xbM) fullShare.left (part rB (xbV m c)))
            ∗ (fin c 8 ∗ ownsTc c (topM csM) fullShare.left (cs0V m c))
            ∗ (fin c 9 ∗ ownsTc c (botM csM) fullShare.left (cs1V m c))
            ∗ (fin c 10 ∗ ownsTc c (topM csM) fullShare.right (cs0V m c))
            ∗ (fin c 11 ∗ ownsTc c (botM csM) fullShare.right (cs1V m c))) -∗ Q ⟨⟩)
          -∗ WP c (app (k0_part13 (F := F)) c) Q) := by
  simp only [k0_part13_eq_skeleton]; unfold app k0_part13_skel
  simp only [semSignalWord, semWaitWord, Prog.lift, Prog.bind_op, Prog.bind_ret, Prog.pure_eq_ret]
  iintro ⟨#Hc, HO, ⟨Hc5, Ha5⟩, ⟨Hc6, Ha6⟩, ⟨Hc8, Ha8⟩, ⟨Hc9, Ha9⟩, ⟨Hc10, Ha10⟩, ⟨Hc11, Ha11⟩⟩ Hk
  iapply (wait m K c (wdst := topM xbM) (wsrc := topM xrM) 5 rfl (by decide) rfl 10 (by decide) (P := ownsTc c (topM xbM) fullShare.left (part rT (xbV m c))) .rfl) $$ [HO Hc5 Ha5]
  · isplitr; · iexact Hc
    isplitl [HO]; · iexact HO
    isplitl [Hc5]; · iexact Hc5
    iexact Ha5
  iintro ⟨HO, Hz5, Hp5⟩
  iapply (wait m K c (wdst := botM xbM) (wsrc := botM xrM) 6 rfl (by decide) rfl 10 (by decide) (P := ownsTc c (botM xbM) fullShare.left (part rB (xbV m c))) .rfl) $$ [HO Hc6 Ha6]
  · isplitr; · iexact Hc
    isplitl [HO]; · iexact HO
    isplitl [Hc6]; · iexact Hc6
    iexact Ha6
  iintro ⟨HO, Hz6, Hp6⟩
  iapply (wait m K c (wdst := topM csM) (wsrc := crM.slice (Rect.unit (s := S512x512) (k0_off3 c 0#32) S128x512.size (k0_off3_inb c 0)) (fun _ => rfl)) 8 rfl (by decide) rfl 10 (by decide) (P := ownsTc c (topM csM) fullShare.left (cs0V m c)) .rfl) $$ [HO Hc8 Ha8]
  · isplitr; · iexact Hc
    isplitl [HO]; · iexact HO
    isplitl [Hc8]; · iexact Hc8
    iexact Ha8
  iintro ⟨HO, Hz8, Hp8⟩
  iapply (wait m K c (wdst := botM csM) (wsrc := crM.slice (Rect.unit (s := S512x512) (k0_off3 c 128#32) S128x512.size (k0_off3_inb c 1)) (fun _ => rfl)) 9 rfl (by decide) rfl 10 (by decide) (P := ownsTc c (botM csM) fullShare.left (cs1V m c)) .rfl) $$ [HO Hc9 Ha9]
  · isplitr; · iexact Hc
    isplitl [HO]; · iexact HO
    isplitl [Hc9]; · iexact Hc9
    iexact Ha9
  iintro ⟨HO, Hz9, Hp9⟩
  iapply (wait m K c (wdst := topM csM) (wsrc := crM.slice (Rect.unit (s := S512x512) (k0_off3 c 0#32) S128x512.size (k0_off3_inb c 0)) (fun _ => rfl)) 10 rfl (by decide) rfl 10 (by decide) (P := ownsTc c (topM csM) fullShare.right (cs0V m c)) .rfl) $$ [HO Hc10 Ha10]
  · isplitr; · iexact Hc
    isplitl [HO]; · iexact HO
    isplitl [Hc10]; · iexact Hc10
    iexact Ha10
  iintro ⟨HO, Hz10, Hp10⟩
  iapply (wait m K c (wdst := botM csM) (wsrc := crM.slice (Rect.unit (s := S512x512) (k0_off3 c 128#32) S128x512.size (k0_off3_inb c 1)) (fun _ => rfl)) 11 rfl (by decide) rfl 10 (by decide) (P := ownsTc c (botM csM) fullShare.right (cs1V m c)) .rfl) $$ [HO Hc11 Ha11]
  · isplitr; · iexact Hc
    isplitl [HO]; · iexact HO
    isplitl [Hc11]; · iexact Hc11
    iexact Ha11
  iintro ⟨HO, Hz11, Hp11⟩
  iapply (wpRet c)
  iapply Hk
  isplitl [HO]; · iexact HO
  isplitl [Hz5 Hp5]
  · isplitl [Hz5]; · iexact Hz5
    iexact Hp5
  isplitl [Hz6 Hp6]
  · isplitl [Hz6]; · iexact Hz6
    iexact Hp6
  isplitl [Hz8 Hp8]
  · isplitl [Hz8]; · iexact Hz8
    iexact Hp8
  isplitl [Hz9 Hp9]
  · isplitl [Hz9]; · iexact Hz9
    iexact Hp9
  isplitl [Hz10 Hp10]
  · isplitl [Hz10]; · iexact Hz10
    iexact Hp10
  isplitl [Hz11]; · iexact Hz11
  iexact Hp11

end Cert.Moe

end
-- ==== Proof.Body.lean ====
/- The kernel's body on one device: its parts in order, from what the launch hands the device to what it leaves. -/
module

public import proofs.«01_k».proof.Proof.PartsB

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 18 → ℕ) (c : Dev nD)

/-! ## What the device holds before and after the body -/

/-- The tokens of the duties the device pays. -/
def pays : sProp 𝕄 := iprop(tok (barCell (xn c)) 0 ∗ tok (barCell (yn c)) 1 ∗ tok (barCell (dg c)) 2
      ∗ tok (dCell c 2) 0 ∗ tok (dCell c 3) 0 ∗ tok (dCell c 4) 0
      ∗ tok (dCell c 5) 0 ∗ tok (dCell c 6) 0 ∗ tok (dCell c 7) 0
      ∗ tok (dCell c 8) 0 ∗ tok (dCell c 9) 0 ∗ tok (dCell c 10) 0
      ∗ tok (dCell c 11) 0 ∗ tok (dCell (xn c) 12) 0 ∗ tok (dCell (xn c) 13) 0
      ∗ tok (dCell (xn c) 14) 0 ∗ tok (dCell (xn c) 15) 0 ∗ tok (dCell (xn c) 16) 0
      ∗ tok (dCell (dg c) 17) 0 ∗ tok (dCell (dg c) 18) 0)
/-- Its cells' positions. -/
def posns : sProp 𝕄 := iprop(pos (barCell c) ∗ pos (dCell c 2) ∗ pos (dCell c 3)
      ∗ pos (dCell c 4) ∗ pos (dCell c 5) ∗ pos (dCell c 6)
      ∗ pos (dCell c 7) ∗ pos (dCell c 8) ∗ pos (dCell c 9)
      ∗ pos (dCell c 10) ∗ pos (dCell c 11) ∗ pos (dCell c 12)
      ∗ pos (dCell c 13) ∗ pos (dCell c 14) ∗ pos (dCell c 15)
      ∗ pos (dCell c 16) ∗ pos (dCell c 17) ∗ pos (dCell c 18))
/-- The credits it holds at launch: its barrier's three units and one landing on each arrival semaphore. -/
def creds : sProp 𝕄 := iprop(cred (tallyAt (barCell c) () 3) ∗ crd c 12 ∗ crd c 13
      ∗ crd c 14 ∗ crd c 15 ∗ crd c 16
      ∗ crd c 17 ∗ crd c 18)
/-- Its semaphores at zero. -/
def zeros : sProp 𝕄 := iprop(semVal (barCell c) 0 ∗ fin c 2 ∗ fin c 3
      ∗ fin c 4 ∗ fin c 5 ∗ fin c 6
      ∗ fin c 7 ∗ fin c 8 ∗ fin c 9
      ∗ fin c 10 ∗ fin c 11 ∗ fin c 12
      ∗ fin c 13 ∗ fin c 14 ∗ fin c 15
      ∗ fin c 16 ∗ fin c 17 ∗ fin c 18)
/-- Its arguments left in place, as launched. -/
def args : sProp 𝕄 := iprop(ownsTc c xHM fullShare (xIn m c) ∗ ownsTc c w1HM fullShare (w1In m c) ∗ ownsTc c w2HM fullShare (w2In m c))
/-- Its scratch buffers, at any contents. -/
def scratch : sProp 𝕄 := iprop(anyTc c asM ∗ anyTc c xrM ∗ anyTc c arM
      ∗ anyTc c csM ∗ anyTc c crM ∗ anyTc c xfM
      ∗ anyTc c xbM ∗ anyTc c w1fM ∗ anyTc c w2fM
      ∗ anyTc c w1M ∗ anyTc c w2M)

/-- The device's result, block by block: its own experts on the block's rows plus those of the device across. -/
theorem out_exists : ∃ X : Vec F S512x512 .bf16, ∀ t, part (rQ t) X = byBlock (α := Vec F S128x512 .bf16) c
    (k0_pay17 (mineV m c) (cs0V m (xn c))) (k0_pay18 (mineV m c) (cs1V m (xn c)))
    (k0_pay19 (othV m c) (cs0V m (dg c))) (k0_pay20 (othV m c) (cs1V m (dg c))) t :=
  blocks_cuts.glue (α := Elt F .bf16) (fun t => byBlock (α := Vec F S128x512 .bf16) c
    (k0_pay17 (mineV m c) (cs0V m (xn c))) (k0_pay18 (mineV m c) (cs1V m (xn c)))
    (k0_pay19 (othV m c) (cs0V m (dg c))) (k0_pay20 (othV m c) (cs1V m (dg c))) t)
/-- The result itself, -/
def outV : Vec F S512x512 .bf16 := Classical.choose (out_exists m c)
/-- and its four blocks. -/
theorem outV_blocks :
    part (rQ (own c 0)) (outV m c) = k0_pay17 (mineV m c) (cs0V m (xn c)) ∧ part (rQ (own c 1)) (outV m c) = k0_pay18 (mineV m c) (cs1V m (xn c))
      ∧ part (rQ (oth c 0)) (outV m c) = k0_pay19 (othV m c) (cs0V m (dg c)) ∧ part (rQ (oth c 1)) (outV m c) = k0_pay20 (othV m c) (cs1V m (dg c)) := by
  have h := Classical.choose_spec (out_exists m c)
  obtain ⟨e1, e2, e3, e4⟩ := byBlock_spec (α := Vec F S128x512 .bf16) c
    (k0_pay17 (mineV m c) (cs0V m (xn c))) (k0_pay18 (mineV m c) (cs1V m (xn c)))
    (k0_pay19 (othV m c) (cs0V m (dg c))) (k0_pay20 (othV m c) (cs1V m (dg c)))
  exact ⟨(h _).trans e1, (h _).trans e2, (h _).trans e3, (h _).trans e4⟩

/-- The four finished blocks are the finished result. -/
theorem join_out : iprop(ownsTc c (blkM oM (own c 0)) fullShare (k0_pay17 (mineV m c) (cs0V m (xn c)))
      ∗ ownsTc c (blkM oM (own c 1)) fullShare (k0_pay18 (mineV m c) (cs1V m (xn c)))
      ∗ ownsTc c (blkM oM (oth c 0)) fullShare (k0_pay19 (othV m c) (cs0V m (dg c)))
      ∗ ownsTc c (blkM oM (oth c 1)) fullShare (k0_pay20 (othV m c) (cs1V m (dg c)))) ⊢ (ownsTc c oM fullShare (outV m c) : sProp 𝕄) := by
  obtain ⟨e1, e2, e3, e4⟩ := outV_blocks m c
  have h := join4 (F := F) c (q := fullShare) (M := oM) (X := outV m c)
  rwa [e1, e2, e3, e4] at h

/-- What the device's unit to `xn c` hands over. -/
theorem give_xn : iprop(anyTc c arM ∗ anyTc c (topM xrM) ∗ anyTc c (botM xrM) ∗ anyTc c (crW (own c 0)) ∗ anyTc c (crW (own c 1)))
    ⊢ (barPay (xn c) 0 : sProp 𝕄) := by
  refine Entails.of_eq ?_
  show _ = iprop(anyTc (xn (xn c)) arM ∗ anyTc (xn (xn c)) (topM xrM) ∗ anyTc (xn (xn c)) (botM xrM) ∗ anyTc (xn (xn c)) (crW (own (xn c) 0)) ∗ anyTc (xn (xn c)) (crW (own (xn c) 1)))
  rw [xn_xn, own_xn, own_xn]
/-- What its unit to `dg c` hands over. -/
theorem give_dg : iprop(anyTc c (crW (oth c 0)) ∗ anyTc c (crW (oth c 1))) ⊢ (barPay (dg c) 2 : sProp 𝕄) := by
  refine Entails.of_eq ?_
  show _ = iprop(anyTc (dg (dg c)) (crW (own (dg c) 0)) ∗ anyTc (dg (dg c)) (crW (own (dg c) 1)))
  rw [dg_dg, own_dg, own_dg]

/-- A buffer at any contents is its two halves at any contents, -/
theorem split2_any {M : Memref sig .tc .vmem S256x512 .bf16} : anyTc c M ⊢ (iprop(anyTc c (topM M) ∗ anyTc c (botM M)) : sProp 𝕄) := by
  iintro ⟨%X, H⟩
  ihave H' := (split2 (F := F) c (q := fullShare) (M := M) (X := X)) $$ H
  icases H' with ⟨H1, H2⟩
  isplitl [H1]; · iexists _; iexact H1
  iexists _; iexact H2
/-- or its four blocks. -/
theorem split4_any {M : Memref sig .tc .vmem S512x512 .bf16} : anyTc c M ⊢ (iprop(anyTc c (blkM M (own c 0)) ∗ anyTc c (blkM M (own c 1))
      ∗ anyTc c (blkM M (oth c 0)) ∗ anyTc c (blkM M (oth c 1))) : sProp 𝕄) := by
  iintro ⟨%X, H⟩
  ihave H' := (split4 (F := F) c (q := fullShare) (M := M) (X := X)) $$ H
  icases H' with ⟨H1, H2, H3, H4⟩
  isplitl [H1]; · iexists _; iexact H1
  isplitl [H2]; · iexists _; iexact H2
  isplitl [H3]; · iexists _; iexact H3
  iexists _; iexact H4

/-! ## The body -/

set_option maxHeartbeats 4000000 in
/-- The body on one device: from its tokens, credits, arguments and scratch to its arguments unchanged, every semaphore
    at zero, nothing owed, and the result in the output's staging buffer. -/
theorem body_run {Q : PUnit → sProp 𝕄} :
    iprop(ctx m K ∗ owing c (O c 0) ∗ pays c ∗ posns c ∗ creds c ∗ args m c ∗ scratch c ∗ ownsTc c agM fullShare (agIn m c) ∗ anyTc c oM)
      ⊢ iprop(((owing c (O c 10) ∗ args m c ∗ scratch c ∗ zeros c ∗ ownsTc c agM fullShare (agIn m c) ∗ ownsTc c oM fullShare (outV m c)) -∗ Q ⟨⟩)
          -∗ WP c (app (cc0_body (F := F))) Q) := by
  simp only [cc0_body_eq_skeleton]; unfold app cc0_body_skel
  simp only [WP, wp_bind, Prog.lift, Prog.pure_eq_ret]
  unfold pays posns creds args scratch zeros
  iintro ⟨#Hc, HO, ⟨Htbx, Htby, Htbd, Ht2, Ht3, Ht4, Ht5, Ht6, Ht7, Ht8, Ht9, Ht10, Ht11, Ht12, Ht13, Ht14, Ht15, Ht16, Ht17, Ht18⟩, ⟨Hab, Ha2, Ha3, Ha4, Ha5, Ha6, Ha7, Ha8, Ha9, Ha10, Ha11, Ha12, Ha13, Ha14, Ha15, Ha16, Ha17, Ha18⟩, ⟨Hcb, Hc12, Hc13, Hc14, Hc15, Hc16, Hc17, Hc18⟩, ⟨Hx, Hw1h, Hw2h⟩, ⟨Has, Hxr, Har, Hcs, Hcr, Hxf, Hxb, Hw1f, Hw2f, Hw1, Hw2⟩, Hag, Hout⟩ Hk
  ihave Hxr2 := (split2_any (F := F) c (M := xrM)) $$ Hxr
  icases Hxr2 with ⟨Hxr0, Hxr1⟩
  ihave Hcr4 := (split4_any (F := F) c (M := crM)) $$ Hcr
  icases Hcr4 with ⟨Hcr0, Hcr1, Hcr2, Hcr3⟩
  ihave Hgx := (give_xn (F := F) c) $$ [Har Hxr0 Hxr1 Hcr0 Hcr1]
  · isplitl [Har]; · iexact Har
    isplitl [Hxr0]; · iexact Hxr0
    isplitl [Hxr1]; · iexact Hxr1
    isplitl [Hcr0]; · iexact Hcr0
    iexact Hcr1
  ihave Hgd := (give_dg (F := F) c) $$ [Hcr2 Hcr3]
  · isplitl [Hcr2]; · iexact Hcr2
    iexact Hcr3
  iapply (part1 m K c) $$ [HO Hx Hxf Ht4 Hw1h Hw1f Ht2 Hw2h Hw2f Ht3 Htbx Hgx Htby]
  · isplitr; · iexact Hc
    isplitl [HO]; · iexact HO
    isplitl [Hx Hxf Ht4]
    · isplitl [Hx]; · iexact Hx
      isplitl [Hxf]; · iexact Hxf
      iexact Ht4
    isplitl [Hw1h Hw1f Ht2]
    · isplitl [Hw1h]; · iexact Hw1h
      isplitl [Hw1f]; · iexact Hw1f
      iexact Ht2
    isplitl [Hw2h Hw2f Ht3]
    · isplitl [Hw2h]; · iexact Hw2h
      isplitl [Hw2f]; · iexact Hw2f
      iexact Ht3
    isplitl [Htbx Hgx]
    · isplitl [Htbx]; · iexact Htbx
      iexact Hgx
    iexact Htby
  iintro ⟨HO, Hc4, Hc2, Hc3⟩
  iapply (part2 m K c _ _ _ _ _ _) $$ [HO Htbd Hgd Hcb Hab Hag Has Ht7 Ht14 Hc4 Ha4 Hxb]
  · isplitr; · iexact Hc
    isplitl [HO]; · iexact HO
    isplitl [Htbd Hgd]
    · isplitl [Htbd]; · iexact Htbd
      iexact Hgd
    isplitl [Hcb Hab]
    · isplitl [Hcb]; · iexact Hcb
      iexact Hab
    isplitl [Hag]; · iexact Hag
    isplitl [Has]; · iexact Has
    isplitl [Ht7 Ht14]
    · isplitl [Ht7]; · iexact Ht7
      iexact Ht14
    isplitl [Hc4 Ha4]
    · isplitl [Hc4]; · iexact Hc4
      iexact Ha4
    iexact Hxb
  iintro ⟨HO, Hzb, ⟨Hr0, Hr1, Hq0, Hq1⟩, ⟨Hd0, Hd1⟩, Hag, Has, Hc7, Hz4, Hxf, Hx, Hxb⟩
  iapply (part3 m K c _ _) $$ [HO Hxb Hr0 Ht5 Ht12 Hr1 Ht6 Ht13 Hc2 Ha2 Hw1 Hc3 Ha3 Hw2]
  · isplitr; · iexact Hc
    isplitl [HO]; · iexact HO
    isplitl [Hxb]; · iexact Hxb
    isplitl [Hr0 Ht5 Ht12]
    · isplitl [Hr0]; · iexact Hr0
      isplitl [Ht5]; · iexact Ht5
      iexact Ht12
    isplitl [Hr1 Ht6 Ht13]
    · isplitl [Hr1]; · iexact Hr1
      isplitl [Ht6]; · iexact Ht6
      iexact Ht13
    isplitl [Hc2 Ha2 Hw1]
    · isplitl [Hc2]; · iexact Hc2
      isplitl [Ha2]; · iexact Ha2
      iexact Hw1
    isplitl [Hc3]; · iexact Hc3
    isplitl [Ha3]; · iexact Ha3
    iexact Hw2
  iintro ⟨HO, Hxb, Hc5, Hc6, ⟨Hz2, Hw1f, Hw1h, Hw1⟩, ⟨Hz3, Hw2f, Hw2h, Hw2⟩⟩
  iapply (part4 m c) $$ [Has Hxb Hw1 Hw2]
  · isplitl [Has]; · iexact Has
    isplitl [Hxb]; · iexact Hxb
    isplitl [Hw1]; · iexact Hw1
    iexact Hw2
  iintro ⟨Has, Hxb, Hw1, Hw2⟩
  iapply (part5 m K c _ _ _ _) $$ [HO Hw1 Hw2 Hc14 Ha14 Hc12 Ha12]
  · isplitr; · iexact Hc
    isplitl [HO]; · iexact HO
    isplitl [Hw1]; · iexact Hw1
    isplitl [Hw2]; · iexact Hw2
    isplitl [Hc14 Ha14]
    · isplitl [Hc14]; · iexact Hc14
      iexact Ha14
    isplitl [Hc12]; · iexact Hc12
    iexact Ha12
  iintro ⟨HO, Hw1, Hw2, ⟨Hz14, Har⟩, ⟨Hz12, Hxr0⟩⟩
  ihave Hcs2 := (split2_any (F := F) c (M := csM)) $$ Hcs
  icases Hcs2 with ⟨Hcs0, Hcs1⟩
  iapply (part6 m c _ _) $$ [Hw1 Hw2 Hxr0 Hcs0]
  · isplitl [Hw1]; · iexact Hw1
    isplitl [Hw2]; · iexact Hw2
    isplitl [Hxr0]; · iexact Hxr0
    iexact Hcs0
  iintro ⟨Hw1, Hw2, Hxr0, Hcs0⟩
  iapply (part7 m K c _ _ _ _ _ _) $$ [HO Hcs0 Hq0 Ht8 Ht15 Hd0 Ht10 Ht17 Hc13 Ha13 Har]
  · isplitr; · iexact Hc
    isplitl [HO]; · iexact HO
    isplitl [Hcs0]; · iexact Hcs0
    isplitl [Hq0 Ht8 Ht15]
    · isplitl [Hq0]; · iexact Hq0
      isplitl [Ht8]; · iexact Ht8
      iexact Ht15
    isplitl [Hd0 Ht10 Ht17]
    · isplitl [Hd0]; · iexact Hd0
      isplitl [Ht10]; · iexact Ht10
      iexact Ht17
    isplitl [Hc13 Ha13]
    · isplitl [Hc13]; · iexact Hc13
      iexact Ha13
    iexact Har
  iintro ⟨HO, Hc8, Hc10, Hz13, Hxr1, Har⟩
  iapply (part8 m c) $$ [Hw1 Hw2 Hxr1]
  · isplitl [Hw1]; · iexact Hw1
    isplitl [Hw2]; · iexact Hw2
    iexact Hxr1
  iintro ⟨Hw1, Hw2, Hxr1⟩
  iapply (part9 m K c _ _ _ _ _ _) $$ [HO Hcs1 Hq1 Ht9 Ht16 Hd1 Ht11 Ht18 Hag Hxf]
  · isplitr; · iexact Hc
    isplitl [HO]; · iexact HO
    isplitl [Hcs1]; · iexact Hcs1
    isplitl [Hq1 Ht9 Ht16]
    · isplitl [Hq1]; · iexact Hq1
      isplitl [Ht9]; · iexact Ht9
      iexact Ht16
    isplitl [Hd1 Ht11 Ht18]
    · isplitl [Hd1]; · iexact Hd1
      isplitl [Ht11]; · iexact Ht11
      iexact Ht18
    isplitl [Hag]; · iexact Hag
    iexact Hxf
  iintro ⟨HO, Hc9, Hc11, Hag, Hxf⟩
  iapply (part10 m c _ _ _ _ _ _) $$ [Hw1 Hw2]
  · isplitl [Hw1]; · iexact Hw1
    iexact Hw2
  iintro ⟨Hw1, Hw2⟩
  ihave Ho4 := (split4_any (F := F) c (M := oM)) $$ Hout
  icases Ho4 with ⟨Ho0, Ho1, Ho2, Ho3⟩
  iapply (part11 m K c _ _ _ _ _ (mineV m c)) $$ [HO Hc15 Ha15 Ho0 Hc16 Ha16 Ho1]
  · isplitr; · iexact Hc
    isplitl [HO]; · iexact HO
    isplitl [Hc15 Ha15 Ho0]
    · isplitl [Hc15]; · iexact Hc15
      isplitl [Ha15]; · iexact Ha15
      iexact Ho0
    isplitl [Hc16]; · iexact Hc16
    isplitl [Ha16]; · iexact Ha16
    iexact Ho1
  iintro ⟨HO, ⟨Hz15, Hcr0, Ho0⟩, ⟨Hz16, Hcr1, Ho1⟩⟩
  iapply (part12 m K c _ _ _ (othV m c)) $$ [HO Hc17 Ha17 Ho2 Hc18 Ha18 Ho3]
  · isplitr; · iexact Hc
    isplitl [HO]; · iexact HO
    isplitl [Hc17 Ha17 Ho2]
    · isplitl [Hc17]; · iexact Hc17
      isplitl [Ha17]; · iexact Ha17
      iexact Ho2
    isplitl [Hc18]; · iexact Hc18
    isplitl [Ha18]; · iexact Ha18
    iexact Ho3
  iintro ⟨HO, ⟨Hz17, Hcr2, Ho2⟩, ⟨Hz18, Hcr3, Ho3⟩⟩
  iapply (part13 m K c) $$ [HO Hc5 Ha5 Hc6 Ha6 Hc8 Ha8 Hc9 Ha9 Hc10 Ha10 Hc11 Ha11]
  · isplitr; · iexact Hc
    isplitl [HO]; · iexact HO
    isplitl [Hc5 Ha5]
    · isplitl [Hc5]; · iexact Hc5
      iexact Ha5
    isplitl [Hc6 Ha6]
    · isplitl [Hc6]; · iexact Hc6
      iexact Ha6
    isplitl [Hc8 Ha8]
    · isplitl [Hc8]; · iexact Hc8
      iexact Ha8
    isplitl [Hc9 Ha9]
    · isplitl [Hc9]; · iexact Hc9
      iexact Ha9
    isplitl [Hc10 Ha10]
    · isplitl [Hc10]; · iexact Hc10
      iexact Ha10
    isplitl [Hc11]; · iexact Hc11
    iexact Ha11
  iintro ⟨HO, ⟨Hz5, Hp5⟩, ⟨Hz6, Hp6⟩, ⟨Hz8, Hp8⟩, ⟨Hz9, Hp9⟩, ⟨Hz10, Hp10⟩, ⟨Hz11, Hp11⟩⟩
  iapply (wait m K c (wsrc := arM) (wdst := asM) 7 rfl (by decide) rfl 10 (by decide) (P := ownsTc c asM fullShare.left (asV m c)) .rfl) $$ [HO Hc7 Ha7]
  · isplitr; · iexact Hc
    isplitl [HO]; · iexact HO
    isplitl [Hc7]; · iexact Hc7
    iexact Ha7
  iintro ⟨HO, Hz7, Hasl⟩
  iapply (wpRet c)
  iapply (wpRet c)
  iapply Hk
  ihave Has := ((show iprop(ownsTc c (asM) fullShare.left (asV m c) ∗ ownsTc c (asM) fullShare.right (asV m c)) ⊢ ownsTc c (asM) fullShare (asV m c) from (owns_halves (c : Thread nD τ) (asM) fullShare (asV m c)).2)) $$ [Hasl Has]
  · isplitl [Hasl]; · iexact Hasl
    iexact Has
  ihave Hxbl := (join2 (F := F) c (q := fullShare.left) (M := xbM) (X := xbV m c)) $$ [Hp5 Hp6]
  · isplitl [Hp5]; · iexact Hp5
    iexact Hp6
  ihave Hxb := ((show iprop(ownsTc c (xbM) fullShare.left (xbV m c) ∗ ownsTc c (xbM) fullShare.right (xbV m c)) ⊢ ownsTc c (xbM) fullShare (xbV m c) from (owns_halves (c : Thread nD τ) (xbM) fullShare (xbV m c)).2)) $$ [Hxbl Hxb]
  · isplitl [Hxbl]; · iexact Hxbl
    iexact Hxb
  ihave Hcs0 := ((show iprop(ownsTc c (topM csM) fullShare.left (cs0V m c) ∗ ownsTc c (topM csM) fullShare.right (cs0V m c)) ⊢ ownsTc c (topM csM) fullShare (cs0V m c) from (owns_halves (c : Thread nD τ) (topM csM) fullShare (cs0V m c)).2)) $$ [Hp8 Hp10]
  · isplitl [Hp8]; · iexact Hp8
    iexact Hp10
  ihave Hcs1 := ((show iprop(ownsTc c (botM csM) fullShare.left (cs1V m c) ∗ ownsTc c (botM csM) fullShare.right (cs1V m c)) ⊢ ownsTc c (botM csM) fullShare (cs1V m c) from (owns_halves (c : Thread nD τ) (botM csM) fullShare (cs1V m c)).2)) $$ [Hp9 Hp11]
  · isplitl [Hp9]; · iexact Hp9
    iexact Hp11
  ihave Hcs := (join2_any (F := F) c (q := fullShare) (M := csM) (X := cs0V m c) (Y := cs1V m c)) $$ [Hcs0 Hcs1]
  · isplitl [Hcs0]; · iexact Hcs0
    iexact Hcs1
  ihave Hxr := (join2_any (F := F) c (q := fullShare) (M := xrM) (X := part rT (xbV m (xn c))) (Y := part rB (xbV m (xn c)))) $$ [Hxr0 Hxr1]
  · isplitl [Hxr0]; · iexact Hxr0
    iexact Hxr1
  ihave Hcr := (join4_any (F := F) c (q := fullShare) (M := crM) (a := cs0V m (xn c)) (b := cs1V m (xn c)) (a' := cs0V m (dg c)) (b' := cs1V m (dg c))) $$ [Hcr0 Hcr1 Hcr2 Hcr3]
  · isplitl [Hcr0]; · iexact Hcr0
    isplitl [Hcr1]; · iexact Hcr1
    isplitl [Hcr2]; · iexact Hcr2
    iexact Hcr3
  ihave Hout := (join_out m c) $$ [Ho0 Ho1 Ho2 Ho3]
  · isplitl [Ho0]; · iexact Ho0
    isplitl [Ho1]; · iexact Ho1
    isplitl [Ho2]; · iexact Ho2
    iexact Ho3
  isplitl [HO]; · iexact HO
  isplitl [Hx Hw1h Hw2h]
  · isplitl [Hx]; · iexact Hx
    isplitl [Hw1h]; · iexact Hw1h
    iexact Hw2h
  isplitl [Has Hxr Har Hcs Hcr Hxf Hxb Hw1f Hw2f Hw1 Hw2]
  · isplitl [Has]; · iexists _; iexact Has
    isplitl [Hxr]; · iexact Hxr
    isplitl [Har]; · iexists _; iexact Har
    isplitl [Hcs]; · iexact Hcs
    isplitl [Hcr]; · iexact Hcr
    isplitl [Hxf]; · iexists _; iexact Hxf
    isplitl [Hxb]; · iexists _; iexact Hxb
    isplitl [Hw1f]; · iexists _; iexact Hw1f
    isplitl [Hw2f]; · iexists _; iexact Hw2f
    isplitl [Hw1]; · iexists _; iexact Hw1
    iexists _; iexact Hw2
  isplitl [Hzb Hz2 Hz3 Hz4 Hz5 Hz6 Hz7 Hz8 Hz9 Hz10 Hz11 Hz12 Hz13 Hz14 Hz15 Hz16 Hz17 Hz18]
  · isplitl [Hzb]; · iexact Hzb
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    iexact Hz18
  isplitl [Hag]; · iexact Hag
  iexact Hout

end Cert.Moe

end
-- ==== Proof.Setup.lean ====
/- What the launch deals out: every cell of every device with its round opened, each duty's token handed to the device
   that pays it, and the launch's credits. -/
module

public import proofs.«01_k».proof.Proof.Body

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells and tokens -/

/-- The kernel's own DMA semaphores: 2 … 18. -/
abbrev osem (k : Fin 17) : SemLoc sig := .dma (⟨k.val + 2, Nat.add_lt_add_right k.isLt 2⟩ : Fin 19)

/-- The kernel's own semaphores are apart from the pipeline's. -/
theorem ownSemFacts : Pipeline.OwnSemFacts cfg0.spec osem := by decide

/-- The semaphore of a device's cell number `k`. -/
def cellSem (k : Fin 18) : SemLoc sig := if h : k.val = 0 then .reg barS else .dma ⟨k.val + 1, Nat.succ_lt_succ k.isLt⟩
/-- A cell by its device and semaphore. -/
theorem cellOf_eq (p : Dev nD × Fin 18) : cellOf p = ((p.1 : Thread nD τ), cellSem p.2) := by
  unfold cellOf cellSem; split <;> rfl
/-- Different cells of a device are different semaphores, -/
theorem cellSem_inj : ∀ k k' : Fin 18, cellSem k = cellSem k' → k = k' := by decide
/-- and different cells are different altogether. -/
theorem cellOf_injective : Function.Injective (cellOf : Dev nD × Fin 18 → GSem nD τ sig) := by
  rintro ⟨c, k⟩ ⟨c', k'⟩ h
  rw [cellOf_eq, cellOf_eq] at h
  have h1 : c = c' := congrArg (fun g : GSem nD τ sig => g.1.1) h
  have h2 : k = k' := cellSem_inj _ _ (congrArg Prod.snd h)
  rw [h1, h2]
def allCells : Finset (GSem nD τ sig) := Finset.univ.map ⟨cellOf, cellOf_injective⟩

/-- The duties on a device's cells: the barrier's three, then one for each DMA semaphore. -/
def tokSem (j : Fin 20) : SemLoc sig := if h : j.val < 3 then .reg barS else .dma ⟨j.val - 1, show j.val - 1 < 19 by have := j.isLt; omega⟩
def tokDuty (j : Fin 20) : Fin 3 := if h : j.val < 3 then ⟨j.val, h⟩ else 0
/-- Different tokens of a device are for different semaphores or contributors, -/
theorem tok_inj : ∀ j j' : Fin 20, tokSem j = tokSem j' → tokDuty j = tokDuty j' → j = j' := by decide
def tokOf (p : Dev nD × Fin 20) : GSem nD τ sig × ℕ × Fin 3 := (((p.1 : Thread nD τ), tokSem p.2), 0, tokDuty p.2)
/-- and different tokens are different altogether. -/
theorem tokOf_injective : Function.Injective tokOf := by
  rintro ⟨c, j⟩ ⟨c', j'⟩ h
  have h1 : c = c' := congrArg (fun g : GSem nD τ sig × ℕ × Fin 3 => g.1.1.1) h
  have h2 : j = j' := tok_inj _ _ (congrArg (fun g : GSem nD τ sig × ℕ × Fin 3 => g.1.2) h) (congrArg (fun g : GSem nD τ sig × ℕ × Fin 3 => g.2.2) h)
  rw [h1, h2]
def allToks : Finset (GSem nD τ sig × ℕ × Fin 3) := Finset.univ.map ⟨tokOf, tokOf_injective⟩

/-- The token of one duty. -/
abbrev tokAt (p : Dev nD × Fin 20) : sProp 𝕄 := dutyTok ER (tokOf p).1 (tokOf p).2.1 (tokOf p).2.2

/-- Whose cell a device's `j`-th payment goes to. -/
def tgt (j : Fin 20) : Dev nD ≃ Dev nD :=
  if j.val = 0 then xnE else if j.val = 1 then ynE else if j.val = 2 then dgE else if j.val < 13 then Equiv.refl _
  else if j.val < 18 then xnE else dgE

omit [FloatOps F] in
/-- The tokens that a device pays with, as a list; -/
theorem pays_eq (c : Dev nD) : (bigSep Finset.univ fun j : Fin 20 => (tokAt (tgt j c, j) : sProp 𝕄)) = pays c :=
  (bigSep_univ_eq_bigSepL [0, 1, 2, 3, 4, 5, 6, 7, 8, 9, 10, 11, 12, 13, 14, 15, 16, 17, 18, 19] (by decide) (by decide) _).trans rfl
omit [FloatOps F] in
/-- the positions at its cells, as a list; -/
theorem posns_eq (c : Dev nD) : (bigSep Finset.univ fun k : Fin 18 => (atPos ER (cellOf (c, k)) 0 ∅ 0 : sProp 𝕄)) = posns c :=
  (bigSep_univ_eq_bigSepL [0, 1, 2, 3, 4, 5, 6, 7, 8, 9, 10, 11, 12, 13, 14, 15, 16, 17] (by decide) (by decide) _).trans rfl
omit [FloatOps F] in
/-- its semaphores at zero, as a list. -/
theorem zeros_eq (c : Dev nD) : (bigSep Finset.univ fun k : Fin 18 => (semVal (cellOf (c, k)) 0 : sProp 𝕄)) = zeros c :=
  (bigSep_univ_eq_bigSepL [0, 1, 2, 3, 4, 5, 6, 7, 8, 9, 10, 11, 12, 13, 14, 15, 16, 17] (by decide) (by decide) _).trans rfl

omit [FloatOps F] in
/-- All tokens, each with the device whose cell it is of, are all tokens, each with the device that pays. -/
theorem toks_dealt : (bigSep Finset.univ fun c : Dev nD => bigSep Finset.univ fun j : Fin 20 => (tokAt (c, j) : sProp 𝕄))
    ⊢ bigSep Finset.univ fun c : Dev nD => pays c := by
  have h1 : (bigSep Finset.univ fun c : Dev nD => (pays c : sProp 𝕄)) = bigSep Finset.univ fun c : Dev nD => bigSep Finset.univ fun j : Fin 20 => (tokAt (tgt j c, j) : sProp 𝕄) :=
    bigSep_congr fun c _ => (pays_eq c).symm
  let e : Dev nD × Fin 20 ≃ Dev nD × Fin 20 :=
    ⟨fun p => (tgt p.2 p.1, p.2), fun p => ((tgt p.2).symm p.1, p.2), fun p => by simp, fun p => by simp⟩
  rw [h1, ← bigSep_univ_prod (fun p : Dev nD × Fin 20 => (tokAt p : sProp 𝕄)),
    ← bigSep_univ_prod (fun p : Dev nD × Fin 20 => (tokAt (tgt p.2 p.1, p.2) : sProp 𝕄)),
    bigSep_univ_equiv e (fun p : Dev nD × Fin 20 => (tokAt p : sProp 𝕄))]
  exact .rfl

/-! ## The launch's ghost state -/

def u₀ : UU :=
  (initOf (Pipeline.cells cfgs Gen.cellOf_inj) (Pipeline.launchToks cfgs Gen.cellOf_inj), initOf allCells allToks)

/-- What the launch element deals device `c`, -/
def G (c : Dev nD) : sProp 𝕄 :=
  iprop((bigSep Finset.univ fun k : Fin 18 => roundState ER (Rd m) (cellOf (c, k)) 0)
    ∗ (bigSep Finset.univ fun k : Fin 18 => reached ER (cellOf (c, k)) 0)
    ∗ (bigSep Finset.univ fun k : Fin 18 => atPos ER (cellOf (c, k)) 0 ∅ 0)
    ∗ bigSep Finset.univ fun j : Fin 20 => tokAt (c, j))
/-- and what opening the cells makes of it. -/
def G' (c : Dev nD) : sProp 𝕄 := iprop(∃ K, records m K ∗ posns c ∗ pays c)

omit [FloatOps F] in
/-- All cells are the cells of each device, -/
theorem over_cells (Φ : GSem nD τ sig → sProp 𝕄) :
    bigSep allCells Φ = bigSep Finset.univ fun c : Dev nD => bigSep Finset.univ fun k : Fin 18 => Φ (cellOf (c, k)) := by
  unfold allCells; rw [bigSep_map, bigSep_univ_prod]; rfl

omit [FloatOps F] in
/-- and all tokens the tokens of each device. -/
theorem over_toks : bigSep allToks (fun x => (dutyTok ER x.1 x.2.1 x.2.2 : sProp 𝕄))
    = bigSep Finset.univ fun c : Dev nD => bigSep Finset.univ fun j : Fin 20 => tokAt (c, j) := by
  unfold allToks; rw [bigSep_map, bigSep_univ_prod]; rfl

/-- The initial ghost state is shared out to the devices. -/
theorem fund_cells : BI.own (ER (initOf allCells allToks)) ⊢ (|==> bigSep Finset.univ (G m) : sProp 𝕄) := by
  iintro HX
  imod (Rounds.fund ER (Rd m) allCells allToks) $$ HX with ⟨Hst, Hr, Hat, Htok⟩
  imodintro
  ihave Hst' := (Entails.of_eq (over_cells fun g => roundState ER (Rd m) g 0)) $$ Hst
  ihave Hat' := (Entails.of_eq (over_cells (F := F) fun g => atPos ER g 0 ∅ 0)) $$ Hat
  ihave Hr' := (Entails.of_eq (over_cells (F := F) fun g => reached ER g 0)) $$ Hr
  ihave Htok' := (Entails.of_eq (over_toks (F := F))) $$ Htok
  unfold G; simp only [bigSep_sep']
  isplitl [Hst']; · iexact Hst'
  isplitl [Hr']; · iexact Hr'
  isplitl [Hat']; · iexact Hat'
  iexact Htok'

omit [FloatOps F] in
/-- The kernel's own semaphores and the barrier, at zero, are all its cells at zero. -/
theorem ownSems0_eq (c : Dev nD) : (Pipeline.ownSems0 (Ix := Unit) (Name := ℕ) (U := UU) (Lvl := ℕ) (Val := Elt F) (τ := τ) osem c : sProp 𝕄)
    = iprop(fin c 2 ∗ fin c 3 ∗ fin c 4 ∗ fin c 5 ∗ fin c 6 ∗ fin c 7 ∗ fin c 8 ∗ fin c 9
      ∗ fin c 10 ∗ fin c 11 ∗ fin c 12 ∗ fin c 13 ∗ fin c 14 ∗ fin c 15 ∗ fin c 16 ∗ fin c 17 ∗ fin c 18) := by
  rw [Pipeline.ownSems0_eq_of_list c osem [0, 1, 2, 3, 4, 5, 6, 7, 8, 9, 10, 11, 12, 13, 14, 15, 16] (by decide) (by decide)]; rfl
omit [FloatOps F] in
/-- The barrier is the only semaphore that outlives the call. -/
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
/-- A device's semaphores at zero are the barrier and the kernel's own. -/
theorem zeros_split (c : Dev nD) : (zeros c : sProp 𝕄)
    = iprop(unscopedSems0 c ∗ Pipeline.ownSems0 (Ix := Unit) (Name := ℕ) (U := UU) (Lvl := ℕ) (Val := Elt F) (τ := τ) osem c) := by
  rw [ownSems0_eq, unscopedSems0_eq]; rfl

omit [FloatOps F] in
/-- A round known open joins an invariant whatever its name. -/
theorem with_reached (R : Rounds.Schedule (GSem nD τ sig) (Fin 3) 𝕄) [∀ g r d, BI.Storable (upEmb : UEmb _ 𝕄) (R.payload g r d)] (g : GSem nD τ sig) :
    iprop((∃ κ : ℕ, cellInv ER R κ g) ∗ reached ER g 0) ⊢ (iprop(∃ κ : ℕ, (cellInv ER R κ g ∗ reached ER g 0)) : sProp 𝕄) := by
  iintro ⟨⟨%κ, H⟩, Hr⟩
  iexists κ
  isplitl [H] <;> iassumption

/-- Each device's cells, their invariants allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 18 => iprop(∃ κ : ℕ, (cellInv ER (Rd m) κ (cellOf (c, k)) ∗ reached ER (cellOf (c, k)) 0)))
          ∗ posns c ∗ bigSep Finset.univ fun j : Fin 20 => tokAt (c, j)) := by
  unfold G
  iintro ⟨Hos, Hus, Hst, Hr, Hat, Htok⟩
  ihave Hv := (Entails.of_eq ((zeros_split (F := F) c).symm.trans (zeros_eq (F := F) c).symm)) $$ [Hos Hus]
  · isplitl [Hus] <;> iassumption
  imod (show iprop((bigSep Finset.univ fun k : Fin 18 => semVal (cellOf (c, k)) 0) ∗ bigSep Finset.univ fun k : Fin 18 => roundState ER (Rd m) (cellOf (c, k)) 0)
      ⊢ (|={Set.univ}=> bigSep Finset.univ fun k => iprop(∃ κ : ℕ, cellInv ER (Rd m) κ (cellOf (c, k))) : sProp 𝕄) from by
        rw [← bigSep_sep']
        exact (bigSep_mono fun k _ => (Rounds.body_intro ER (Rd m) (cellOf (c, k))).trans inv_alloc).trans (bigSep_fupd _ _)) $$ [Hv Hst] with Hinv
  · isplitl [Hv] <;> iassumption
  imodintro
  isplitl [Hinv Hr]
  · iapply (show iprop((bigSep Finset.univ fun k : Fin 18 => iprop(∃ κ : ℕ, cellInv ER (Rd m) κ (cellOf (c, k)))) ∗ bigSep Finset.univ fun k : Fin 18 => reached ER (cellOf (c, k)) 0)
      ⊢ (bigSep Finset.univ fun k : Fin 18 => iprop(∃ κ : ℕ, (cellInv ER (Rd m) κ (cellOf (c, k)) ∗ reached ER (cellOf (c, k)) 0)) : sProp 𝕄) from by
        rw [← bigSep_sep']
        exact bigSep_mono fun k _ => with_reached (Rd m) (cellOf (c, k)))
    isplitl [Hinv] <;> iassumption
  isplitl [Hat]
  · iapply (Entails.of_eq (posns_eq (F := F) c)); iexact Hat
  iexact Htok

omit [FloatOps F] in
/-- A persistent assertion goes to every member of a family. -/
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (show iprop(R ∗ bigSep S Φ) ⊢ iprop((bigSep S fun _ => R) ∗ bigSep S Φ) from sep_mono_left (BI.bigSep_of_persistent S R)).trans ?_
  rw [← bigSep_sep']; exact bigSep_mono h

/-- The invariants become known to all, and each token goes to its payer. -/
theorem regroup :
    (bigSep Finset.univ fun c : Dev nD => iprop((bigSep Finset.univ fun k : Fin 18 => iprop(∃ κ : ℕ, (cellInv ER (Rd m) κ (cellOf (c, k)) ∗ reached ER (cellOf (c, k)) 0)))
          ∗ posns c ∗ bigSep Finset.univ fun j : Fin 20 => tokAt (c, j)) : sProp 𝕄)
      ⊢ bigSep Finset.univ (G' m) := by
  rw [bigSep_sep', bigSep_sep', ← bigSep_univ_prod (fun p : Dev nD × Fin 18 => iprop(∃ κ : ℕ, (cellInv ER (Rd m) κ (cellOf p) ∗ reached ER (cellOf p) 0)))]
  iintro ⟨HI, Hat, Htok⟩
  ihave HK := (BI.bigSep_exists_pi Finset.univ (fun (p : Dev nD × Fin 18) (κ : ℕ) => (iprop(cellInv ER (Rd m) κ (cellOf p) ∗ reached ER (cellOf p) 0) : sProp 𝕄))) $$ HI
  icases HK with ⟨%K, HI⟩
  ihave HR := (show (bigSep Finset.univ fun p : Dev nD × Fin 18 => (iprop(cellInv ER (Rd m) (K p) (cellOf p) ∗ reached ER (cellOf p) 0) : sProp 𝕄)) ⊢ records m K from .rfl) $$ HI
  ihave Htk := (toks_dealt (F := F)) $$ Htok
  iapply (to_each (R := records m K) (S := Finset.univ) (Φ := fun c : Dev nD => iprop(posns c ∗ pays c)) (Ψ := G' m) fun c _ => by
    unfold G'
    iintro ⟨#HR, H⟩
    iexists K
    isplitr; · iexact HR
    iexact H)
  isplitl [HR]; · iexact HR
  rw [bigSep_sep']
  isplitl [Hat] <;> iassumption

/-- The step all devices take at once before any runs. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credits -/

/-- What a list owes to a cell is the sum of its entries for the cell. -/
theorem owedL_apply (l : List (GSem nD τ sig × ℕ)) (g : GSem nD τ sig) :
    owedL l g () = (l.map fun p => if g = p.1 then p.2 else 0).sum := by
  induction l with
  | nil => rfl
  | cons p l ih =>
    unfold owedL
    rw [Pi.add_apply, Finsupp.add_apply, tallyAt_apply, ih, List.map_cons, List.sum_cons, Nat.add_comm]
    simp

/-- Barriers are told apart by their devices, -/
theorem bar_eq_iff {a b : Dev nD} : barCell a = barCell b ↔ a = b :=
  ⟨fun h => congrArg (fun g : GSem nD τ sig => g.1.1) h, fun h => h ▸ rfl⟩
/-- DMA cells by device and semaphore, -/
theorem dma_eq_iff {a b : Dev nD} {k l : DmaSem sig} : dCell a k = dCell b l ↔ a = b ∧ k = l :=
  ⟨fun h => ⟨congrArg (fun g : GSem nD τ sig => g.1.1) h, SemLoc.dma.inj (congrArg Prod.snd h)⟩, fun h => h.1 ▸ h.2 ▸ rfl⟩
/-- and no barrier is a DMA cell. -/
theorem bar_ne_dma {a b : Dev nD} {k : DmaSem sig} : barCell a ≠ dCell b k := fun h => by cases congrArg Prod.snd h

/-- All devices together owe a barrier its three units, -/
theorem owed_bar (c : Dev nD) : ∑ d : Dev nD, O d 0 (barCell c) () = 3 := by
  have h : ∀ d, O d 0 (barCell c) () = (if c = xn d then 1 else 0) + ((if c = yn d then 1 else 0) + (if c = dg d then 1 else 0)) := fun d => by
    unfold O; rw [owedL_apply]
    simp only [dues, List.drop_zero, List.map_cons, List.map_nil, List.sum_cons, List.sum_nil, bar_eq_iff, if_neg bar_ne_dma, Nat.add_zero]
  rw [Finset.sum_congr rfl fun d _ => h d]
  clear h; revert c; decide

/-- and the arrival semaphores one landing each. -/
theorem owed_dma (c : Dev nD) (k : DmaSem sig) (hk : 12 ≤ k.val) : ∑ d : Dev nD, O d 0 (dCell c k) () = amt k := by
  have hb : ∀ (a b : Dev nD) (l : DmaSem sig), ¬ dCell a l = barCell b := fun a b l h => bar_ne_dma h.symm
  have h : ∀ d, O d 0 (dCell c k) () = if c = (if k.val < 17 then xn d else dg d) then amt k else 0 := fun d => by
    unfold O; rw [owedL_apply]
    simp only [dues, List.drop_zero, List.map_cons, List.map_nil, List.sum_cons, List.sum_nil, dma_eq_iff, if_neg (hb _ _ _), Nat.add_zero, Nat.zero_add]
    have hk' : k = 12 ∨ k = 13 ∨ k = 14 ∨ k = 15 ∨ k = 16 ∨ k = 17 ∨ k = 18 := by revert k; decide
    generalize hA : amt = A
    rcases hk' with rfl | rfl | rfl | rfl | rfl | rfl | rfl <;> simp +decide
  rw [Finset.sum_congr rfl fun d _ => h d]
  by_cases hk : k.val < 17
  · simp only [hk, if_true]
    rw [Finset.sum_congr rfl fun d _ => show (if c = xn d then amt k else 0) = (if xn c = d then amt k else 0) from
      if_congr ⟨fun e => by rw [e, xn_xn], fun e => by rw [← e, xn_xn]⟩ rfl rfl, Finset.sum_ite_eq, if_pos (Finset.mem_univ _)]
  · simp only [hk, if_false]
    rw [Finset.sum_congr rfl fun d _ => show (if c = dg d then amt k else 0) = (if dg c = d then amt k else 0) from
      if_congr ⟨fun e => by rw [e, dg_dg], fun e => by rw [← e, dg_dg]⟩ rfl rfl, Finset.sum_ite_eq, if_pos (Finset.mem_univ _)]

/-- What every device owes at launch. -/
abbrev O₀ (c : Dev nD) : CellTallies nD τ sig Unit := O c 0

/-- If the devices together owe a cell `n` units, its waiter is credited with `n`. -/
theorem launch_at (g : GSem nD τ sig) (n : ℕ) (h : ∑ d : Dev nD, O d 0 g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same]; exact h

/-- The semaphores credited at launch. -/
def credSems : Finset (SemLoc sig) := {.reg barS, .dma 12, .dma 13, .dma 14, .dma 15, .dma 16, .dma 17, .dma 18}

omit [FloatOps F] in
/-- The credits that a device starts with. -/
theorem creds_intro (c : Dev nD) : (Pipeline.launchCred O₀ c : sProp 𝕄) ⊢ creds c := by
  unfold Pipeline.launchCred
  refine (show _ ⊢ bigSep credSems (fun sm : SemLoc sig => (cred (tallyOn ((c.tc : Thread nD τ), sm) (launchCredit (Pipeline.owing O₀) 0 ((c.tc : Thread nD τ), sm))) : sProp 𝕄))
    from BI.bigSep_subset (Finset.subset_univ _)).trans (Entails.of_eq ?_)
  rw [bigSep_eq_bigSepL_of_eq [SemLoc.reg barS, .dma 12, .dma 13, .dma 14, .dma 15, .dma 16, .dma 17, .dma 18] (by decide) (by decide)]
  simp only [bigSepL]
  rw [launch_at _ 3 (owed_bar c), launch_at _ _ (owed_dma c 12 (by decide)), launch_at _ _ (owed_dma c 13 (by decide)), launch_at _ _ (owed_dma c 14 (by decide)),
    launch_at _ _ (owed_dma c 15 (by decide)), launch_at _ _ (owed_dma c 16 (by decide)), launch_at _ _ (owed_dma c 17 (by decide)), launch_at _ _ (owed_dma c 18 (by decide))]
  rfl

end Cert.Moe

end
-- ==== Proof.Launch.lean ====
/- The run of the whole program on the four devices: it ends, every device's result array holds what the body computed,
   the arguments are as launched and every semaphore is at zero. -/
module

public import proofs.«01_k».proof.Proof.Setup
public import Idealize.ShloMosaic.Lib.Pipeline.Quiescent
public import Idealize.ShloMosaic.Lib.Quiescent

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The state at launch. -/
def s₀ : MemSt nD τ sig (Elt F) := ⟨m, fun _ => 0, ρ⟩

/-- What a device starts the body from besides its scratch, -/
def start (c : Dev nD) : sProp 𝕄 := iprop((∃ K, records m K ∗ posns c ∗ pays c) ∗ creds c ∗ levAts L lv ∗ args m c)
def Φ₀ (c : Dev nD) : sProp 𝕄 := iprop(start m c ∗ scratch c)
/-- and what it leaves. -/
def Φ₁ (c : Dev nD) : sProp 𝕄 := iprop(args m c ∗ scratch c ∗ zeros c)

/-- The one grid point's data: the staged assignment in, the result out. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => agIn m c
    | ⟨1, _⟩ => outV m c
  Φ t := match t with
    | ⟨0, _⟩ => Φ₀ m c
    | ⟨_ + 1, _⟩ => Φ₁ m c
  q _ := fullShare
  owed t := match t with
    | ⟨0, _⟩ => O c 0
    | ⟨_ + 1, _⟩ => O c 10

/-! ## The body's obligation -/

/-- The only grid point. -/
abbrev t₀ : Fin cfg0.N := t0_0

def bodyPre (c : Dev nD) : sProp 𝕄 :=
  iprop(Φ₀ m c ∗ (dats m ρ 0 c).owesAt () t₀.castSucc
    ∗ (∃ d, ownsTc c agM fullShare ((dats m ρ 0 c).before (0 : Fin 2) t₀ d))
    ∗ (∃ d, ownsTc c oM fullShare ((dats m ρ 0 c).before (1 : Fin 2) t₀ d)))
def bodyPost (c : Dev nD) : sProp 𝕄 :=
  iprop(Φ₁ m c ∗ (dats m ρ 0 c).owesAt () t₀.succ ∗ ownsTc c agM fullShare (agIn m c) ∗ ownsTc c oM fullShare (outV m c))

/-- The staged assignment is what the window's fetch brings. -/
theorem staged (c : Dev nD) (d) : (dats m ρ 0 c).before (0 : Fin 2) t₀ d = agIn m c := by
  unfold Dat.before; rw [if_pos (fetch0_0 t₀)]; rfl

/-- The body meets its pre- and postcondition at the one grid point. -/
theorem body_sound (c : Dev nD) : bodyPre m ρ c ⊢ WP c (app (cc0_body (F := F))) (fun _ => bodyPost m ρ c) := by
  unfold bodyPre Φ₀ start Dat.owesAt Pipeline.owesWithin
  iintro ⟨⟨⟨⟨%K, #HR, Hp, Ht⟩, Hcr, #Hlev, Ha⟩, Hs⟩, ⟨%W, %hW, HO⟩, ⟨%d0, Hag⟩, ⟨%d1, Hout⟩⟩
  ihave Hag := (Entails.of_eq (congrArg (ownsTc c agM fullShare) (staged m ρ c d0))) $$ Hag
  iapply (body_run m K c (Q := fun _ => bodyPost m ρ c)) $$ [HO Hp Ht Hcr Ha Hs Hag Hout]
  · isplitr
    · unfold ctx
      isplitr; · iexact HR
      iexact Hlev
    isplitl [HO]; · iexists W; iexact HO
    isplitl [Ht]; · iexact Ht
    isplitl [Hp]; · iexact Hp
    isplitl [Hcr]; · iexact Hcr
    isplitl [Ha]; · iexact Ha
    isplitl [Hs]; · iexact Hs
    isplitl [Hag]; · iexact Hag
    iexists _; iexact Hout
  iintro ⟨⟨%W', HO⟩, Ha, Hs, Hz, Hag, Hout⟩
  unfold bodyPost Φ₁ Dat.owesAt Pipeline.owesWithin
  isplitl [Ha Hs Hz]
  · isplitl [Ha]; · iexact Ha
    isplitl [Hs]; · iexact Hs
    iexact Hz
  isplitl [HO]
  · iexists W'
    isplitr; · ipureintro; exact fun _ _ => Or.inl trivial
    iexact HO
  isplitl [Hag]; · iexact Hag
  iexact Hout

set_option maxRecDepth 8000 in
/-- The same as the launch theorem asks for it. -/
theorem body_obligation (c : Dev nD) : BodyObligation (dats (F := F) m ρ 0 c) (defs₀ (F := F)) 𝒱₀ () Set.univ := fun t => by
  rw [show t = t₀ from fin_N0 t]
  erw [bigSep_W0, bigSep_W0]
  exact body_sound m ρ c

/-! ## The launch's side conditions -/

/-- The pipeline holds the whole of each staged buffer. -/
theorem share_eq (c : Dev nD) (w : Fin cfg0.W) : (dats m ρ 0 c).share w = fullShare := by unfold Dat.share; split <;> rfl

/-- Waiting on a staging semaphore is below everything owed. -/
theorem waits (c : Dev nD) : (levAts L lv : sProp 𝕄) ⊢ Pipeline.cellsWaits cfgs (dats m ρ) () 0 c :=
  Pipeline.cellsWaits_intro cfgs (dats m ρ) () 0 c fun w s t => by
    have h0 : (levAts L lv : sProp 𝕄) ⊢ MayWait (c : Thread nD τ) (.dma ((cfg0.win w).sem s)) () (O c 0) := by
      refine mayWait (F := F) c _ 0 ?_
      revert w s; decide
    have h1 : (levAts L lv : sProp 𝕄) ⊢ MayWait (c : Thread nD τ) (.dma ((cfg0.win w).sem s)) () (O c 10) := by
      refine mayWait (F := F) c _ 10 ?_
      clear h0; revert w s; decide
    rcases t with ⟨_ | _, ht⟩
    · exact h0
    · exact h1

omit [FloatOps F] in
/-- The arguments left in place, as points-to facts. -/
theorem args_eq (c : Dev nD) : (args m c : sProp 𝕄)
    = iprop((((c : Thread nD τ).loc main_arg0) ↦{fullShare} m ((c : Thread nD τ).loc main_arg0))
      ∗ (((c : Thread nD τ).loc main_arg2) ↦{fullShare} m ((c : Thread nD τ).loc main_arg2))
      ∗ (((c : Thread nD τ).loc main_arg3) ↦{fullShare} m ((c : Thread nD τ).loc main_arg3))) := by
  unfold args ownsTc xIn w1In w2In
  rw [owns_whole, owns_whole, owns_whole]

omit [FloatOps F] in
/-- The scratch buffers likewise. -/
theorem scratch_eq (c : Dev nD) : (Pipeline.scopedRest cfg0.spec c : sProp 𝕄) = scratch c := by
  refine (scopedRest0_eq c).trans ?_
  unfold scratch anyTc ownsTc
  simp only [owns_whole]
  rfl

/-- What the launch gives a device is the body's starting state. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  iintro ⟨Hu, Hlev, Hcr, -, HG⟩
  ihave Hc := (creds_intro (F := F) c) $$ Hcr
  ihave Ha := (Entails.of_eq ((unscopedRest0_eq (Ix := Unit) (Name := ℕ) (U := UU) (Lvl := ℕ) c (fun b => m ((c : Thread nD τ).loc b))).trans (args_eq m c).symm)) $$ Hu
  imodintro
  isplitl
  · unfold start
    isplitl [HG]; · unfold G'; iexact HG
    isplitl [Hc]; · iexact Hc
    isplitl [Hlev]; · iexact Hlev
    iexact Ha
  · iempintro

/-- The starting state and the scratch buffers are the invariant before the only grid step, -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs]; · iexact Hs
  iexact Hr

/-- and the invariant after it gives back the arguments, the semaphores at zero and the scratch buffers. -/
theorem phi1_exit (c : Dev nD) :
    (dats m ρ 0 c).Φ (Fin.last cfg0.N) ⊢ iprop((args m c ∗ unscopedSems0 c) ∗ Pipeline.ownSems0 osem c ∗ Pipeline.scopedRest cfg0.spec c) := by
  rw [show (dats m ρ 0 c).Φ (Fin.last cfg0.N) = Φ₁ m c from rfl, scratch_eq]
  unfold Φ₁
  rw [zeros_split]
  iintro ⟨Ha, Hs, Hu, Ho⟩
  isplitl [Ha Hu]
  · isplitl [Ha] <;> iassumption
  isplitl [Ho] <;> iassumption

/-- What is read of a device at the end, besides the windows' arrays. -/
def QY (c : Dev nD) (s : MemSt nD τ sig (Elt F)) : Prop :=
  (s.mem ((c : Thread nD τ).loc main_arg0) = m ((c : Thread nD τ).loc main_arg0)
    ∧ s.mem ((c : Thread nD τ).loc main_arg2) = m ((c : Thread nD τ).loc main_arg2)
    ∧ s.mem ((c : Thread nD τ).loc main_arg3) = m ((c : Thread nD τ).loc main_arg3))
  ∧ ∀ sm : SemLoc sig, sm.isScoped .tc = false → s.sem ((c.tc : Thread nD τ), sm) = 0

/-- The arguments held at the end are read off the final memory. -/
theorem read_end (c : Dev nD) (s' : Phys nD τ sig (Elt F)) :
    iprop((args m c ∗ unscopedSems0 c) ∗ emp ∗ SI s') ⊢ (|={Set.univ}=> iprop(⌜QY m c s'.mem⌝ ∗ SI s') : sProp 𝕄) := by
  rw [args_eq]
  iintro ⟨⟨⟨H0, H2, H3⟩, Hu⟩, -, HSI⟩
  icombine HSI H0 gives %h0
  icombine HSI H2 gives %h2
  icombine HSI H3 gives %h3
  ihave %hu := (tcUnscoped_read c s') $$ [Hu HSI]
  · isplitl [Hu] <;> iassumption
  imodintro
  isplitr
  · ipureintro; exact ⟨⟨funext fun i => h0 i (Finset.mem_univ i), funext fun i => h2 i (Finset.mem_univ i), funext fun i => h3 i (Finset.mem_univ i)⟩, hu⟩
  iexact HSI

/-! ## The run -/

/-- What a device's window arrays hold at the end. -/
def finalA (c : Dev nD) (w : Fin cfg0.W) : Buf (Elt F) ((cfg0.win w).arr.view.loc (c : Thread nD τ)) := (dats m ρ 0 c).arrAt w cfg0.N

/-- The end of the run, device by device. -/
def QC (r : PUnit × MemSt nD τ sig (Elt F)) : Prop :=
  ∀ c : Dev nD, (∀ w : Fin cfg0.W, r.2.mem ((cfg0.win w).arr.view.loc (c : Thread nD τ)) = finalA m ρ c w) ∧ QY m c r.2

set_option maxRecDepth 8000 in
/-- From any memory with zero counters every weakly fair execution ends, in the states described. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () Gen.cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(args m c ∗ unscopedSems0 c)) (Z := fun _ => iprop(emp))
    (hX := start_intro m ρ) (hin := phi0_intro m ρ) (hout := phi1_exit m ρ)
    (QY := QY m) (hY := read_end m)
    (hQ := fun _ h hs => ⟨fun c => ⟨fun w => (h c).1 w, (h c).2.2⟩, sem_eq_zero hs fun c => (h c).2.2.2⟩)

end Cert.Moe

end
-- ==== Proof.Frames.lean ====
/- What the run leaves, argument by argument and in the result, and from it the claims that arguments are unchanged and
   every semaphore ends at zero. -/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Pipeline.Value

@[expose] public section

noncomputable section

namespace Cert.Moe

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg)

/-- A window's block at offset zero and of the array's extents reads the array itself. -/
theorem blk_read1 (X : Vec F S512x512 .bf16) : (win0_1.blk (0 : Fin 1)).view.read (Elt F) X = X := by
  funext i
  show X ((win0_1.rect (0 : Fin 1)).emb i) = X i
  congr 1
  funext a
  exact Fin.ext (Window.rect_emb_val_of_index_zero win0_1 (0 : Fin 1) a (by revert a; decide) i)
/-- The same of the assignment window. -/
theorem blk_read0 (X : Vec F S512x1 .i32) : (win0_0.blk (0 : Fin 1)).view.read (Elt F) X = X := by
  funext i
  show X ((win0_0.rect (0 : Fin 1)).emb i) = X i
  congr 1
  funext a
  exact Fin.ext (Window.rect_emb_val_of_index_zero win0_0 (0 : Fin 1) a (by revert a; decide) i)

/-- The staged assignment is the assignment block as launched. -/
theorem agIn_eq (c : Dev nD) : agIn m c = m ((c : Thread nD τ).loc main_arg1) := blk_read0 _

/-- The assignment array is untouched, -/
theorem final_ag (c : Dev nD) : finalA m ρ c (0 : Fin 2) = m ((c : Thread nD τ).loc main_arg1) :=
  (dats (F := F) m ρ 0 c).arrAt_in (0 : Fin 2) rfl _
/-- and the result array holds the body's result. -/
theorem final_out (c : Dev nD) : finalA m ρ c (1 : Fin 2) = outV m c := by
  refine (dats (F := F) m ρ 0 c).arrAt_eq_of_cover (1 : Fin 2) (outV m c) (fun t _ => ?_) (fun i => ⟨t₀, flush0_1 t₀, ?_⟩)
  · rw [show t = t₀ from fin_N0 t]
    exact (blk_read1 (outV m c)).symm
  · have h : (win0_1.blk (0 : Fin 1)).view.emb i = i := by
      funext a
      exact Fin.ext (Window.rect_emb_val_of_index_zero win0_1 (0 : Fin 1) a (by revert a; decide) i)
    have h' := (win0_1.blk (0 : Fin 1)).view.emb_mem_set i
    rw [h] at h'; exact h'

/-- The run of the program: every execution ends; on every device the arguments are as launched and the result is the
    body's; every semaphore is at zero. -/
theorem run_main : θ_run defs (onTc (τ := τ) (main (F := F))) ⟨m, fun _ => 0, ρ⟩ (fun r => (∀ c : Dev nD,
      r.2.mem ((c.tc : Thread nD τ).loc main_v1) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨((h.1 c).1 (1 : Fin 2)).trans (final_out m ρ c), (h.1 c).2.1.1,
    ((h.1 c).1 (0 : Fin 2)).trans (final_ag m ρ c), (h.1 c).2.1.2.1, (h.1 c).2.1.2.2⟩, h.2⟩) (run_arrays m ρ)

end Cert.Moe

namespace Cert.Proof

open Idealize.ShloMosaic Idealize.SL.Sem

attribute [local instance] Cert.Kernel.Gen.facts Cert.KernelIdeal.Gen.facts Cert.ReferenceIdeal.Gen.facts

/-- The idealized kernel ends quiescent, its arguments unchanged. -/
theorem frame_kernelIdeal : Cert.quiescent_KernelIdeal := fun m ρ _ =>
  (θ_run Cert.KernelIdeal.defs _ _).mono (fun _ h => ⟨fun c => (h.1 c).2, h.2⟩) (Cert.Moe.run_main (F := Ideal) m ρ)

set_option maxRecDepth 8000 in
/-- The kernel as printed has the same text: the same bodies, -/
theorem bodies_eq : Cert.Kernel.defs₀ (F := Bits) = Cert.KernelIdeal.defs₀ (F := Bits) :=
  congrArg Defs.onTc (funext fun l => funext fun x => match l, x with
  | ⟨0, _⟩, (t, s) => rfl
  | ⟨_ + 1, h⟩, _ => absurd h (Nat.not_lt.2 (Nat.le_add_left _ _)))
/-- the same table of them, -/
theorem tables_eq : Cert.Kernel.defs (F := Bits) = Cert.KernelIdeal.defs (F := Bits) := by
  unfold Cert.Kernel.defs Cert.KernelIdeal.defs
  rw [bodies_eq]
  rfl

/-- so its run is the same, at the machine's floats. -/
theorem frame_kernel : Cert.quiescent_Kernel := fun m ρ _ => by
  have h := (θ_run Cert.KernelIdeal.defs _ _).mono (fun (r : PUnit × MemSt Cert.KernelIdeal.nD Cert.KernelIdeal.τ Cert.KernelIdeal.sig (Elt Bits)) h =>
    (⟨fun c => (h.1 c).2, h.2⟩ : (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)) (Cert.Moe.run_main (F := Bits) m ρ)
  exact (congrArg (fun D => θ_run D (onTc (τ := Cert.Kernel.τ) (Cert.Kernel.main (F := Bits))) ⟨m, fun _ => 0, ρ⟩ _) tables_eq).mpr h

/-- The reference ends with its arguments unchanged; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Values.lean ====
/- What the kernel's pure expressions are at an index, over the extended reals.

   One token with features `x` goes through expert `(W1, W2)` as `ffn x W1 W2`. The kernel sends a row of zeros through
   an expert instead when the token is not assigned to it, and a row of zeros comes out as zeros; so each product of a
   masked block is, row by row, `gate (assignment) (expert number) (ffn …)`. -/
module

public import proofs.«01_k».proof.Proof.Protocol
public import Idealize.ShloMosaic.PureOps.Ideal.Laws
public import Idealize.ShloMosaic.Lib.MatmulPlain
public import Idealize.ShloMosaic.Lib.IdealHost
public import Idealize.ShloMosaic.Lib.ValueIdx
public import Idealize.ShloMosaic.Lib.ValueLayout
public import Idealize.ShloMosaic.Lib.Pipeline.Value

@[expose] public section

noncomputable section

namespace Cert.Moe

open Cert.KernelIdeal Cert.KernelIdeal.Gen
open Idealize.ShloMosaic Idealize.ShloMosaic.ValueIdx
open scoped BigOperators

/-! ## One token through one expert -/

/-- The hidden layer of one token. -/
def hid (x : Fin 512 → EReal) (W1 : Fin 512 → Fin 1024 → EReal) (f : Fin 1024) : EReal := max (∑ d, x d * W1 d f) 0

/-- One token through one expert. -/
def ffn (x : Fin 512 → EReal) (W1 : Fin 512 → Fin 1024 → EReal) (W2 : Fin 1024 → Fin 512 → EReal) (j : Fin 512) : EReal :=
  ∑ f, hid x W1 f * W2 f j

/-- `v` for a token assigned to expert `w`, zero for any other token. -/
def gate (a w : BitVec 32) (v : EReal) : EReal := if a = w then v else 0

/-- Zeros go through an expert as zeros. -/
theorem ffn_zero (W1 : Fin 512 → Fin 1024 → EReal) (W2 : Fin 1024 → Fin 512 → EReal) (j : Fin 512) :
    ffn (fun _ => 0) W1 W2 j = 0 := by
  simp [ffn, hid]

/-- Masking a token's features before the expert masks the expert's result. -/
theorem ffn_gate (a w : BitVec 32) (x : Fin 512 → EReal) (W1 : Fin 512 → Fin 1024 → EReal)
    (W2 : Fin 1024 → Fin 512 → EReal) (j : Fin 512) :
    ffn (fun d => gate a w (x d)) W1 W2 j = gate a w (ffn x W1 W2 j) := by
  by_cases h : a = w
  · simp only [gate, if_pos h]
  · simp only [gate, if_neg h]; exact ffn_zero W1 W2 j

/-- A select by an equality of words. -/
theorem select_eq (p w : BitVec 32) (u v : EReal) :
    Scalar.select (IntOp.cmpi .eq p w) u v = if p = w then u else v := by
  by_cases h : p = w
  · simp [Scalar.select, IntOp.cmpi, h]
  · have hb : (p == w) = false := beq_eq_false_iff_ne.mpr h
    simp [Scalar.select, IntOp.cmpi, hb, h]

/-! ## The kernel's operations at an index, for any number of rows -/

section Rows
variable {n : Nat}

/-- The kernel's mask of a block of rows. -/
theorem mask_apply (a : IVec ⟨2, ![n, 1]⟩ 32) (w : BitVec 32) (X : FVec Ideal ⟨2, ![n, 512]⟩ .bf16)
    (h1 : (⟨2, ![n, 1]⟩ : Shape).ShapeCasts ⟨2, ![n, 1]⟩) (h2 : (⟨2, ![n, 1]⟩ : Shape).Broadcasts ⟨2, ![n, 512]⟩)
    (r : Fin n) (d : Fin 512) :
    select (broadcastTo ⟨2, ![n, 512]⟩ (shapeCast ⟨2, ![n, 1]⟩ (cmpi .eq a (broadcast ⟨2, ![n, 1]⟩ w)) h1) h2) X
      (broadcast ⟨2, ![n, 512]⟩ (Scalar.ofBits .bf16 0x0000#16 : Ideal .bf16)) (ix2 r d)
      = gate (a (ix2 r 0)) w (X (ix2 r d)) := by
  rw [shapeCast_self, select_apply, broadcastTo_apply _ h2 (ix2 r d) (ix2 r (0 : Fin 1)) (fun ax => ?_)]
  · show Scalar.select (IntOp.cmpi .eq (a (ix2 r 0)) w) (X (ix2 r d)) (Ideal.ofBits .bf16 0x0000#16) = _
    rw [Ideal.ofBits_zero_bf16]
    exact select_eq _ _ _ _
  · match ax with
    | ⟨0, _⟩ =>
      show r.val = if n = 1 then 0 else r.val
      split
      · have := r.isLt; omega
      · rfl
    | ⟨1, _⟩ => rfl

/-- The hidden layer of a block of rows. -/
theorem hidden_apply (X : FVec Ideal ⟨2, ![n, 512]⟩ .bf16) (A : FVec Ideal ⟨3, ![1, 512, 1024]⟩ .bf16)
    (h : (⟨3, ![1, 512, 1024]⟩ : Shape).ShapeCasts ⟨2, ![512, 1024]⟩) (r : Fin n) (f : Fin 1024) :
    maximumf (FloatOps.matmul (DotDims.plain n 512 1024) none X (shapeCast ⟨2, ![512, 1024]⟩ A h)
        (constant ⟨2, ![n, 1024]⟩ .f32 0x00000000#32))
      (broadcast ⟨2, ![n, 1024]⟩ (Scalar.ofBits .f32 0x00000000#32 : Ideal .f32)) (ix2 r f)
      = hid (fun d => X (ix2 r d)) (fun d f => A (ix3 (0 : Fin 1) d f)) f := by
  show max (FloatOps.matmul (DotDims.plain n 512 1024) none X (shapeCast ⟨2, ![512, 1024]⟩ A h)
        (constant ⟨2, ![n, 1024]⟩ .f32 0x00000000#32) (ix2 r f)) (Ideal.ofBits .f32 0x00000000#32) = _
  rw [Ideal.matmul_plain_apply, Ideal.ofBits_zero_f32]
  show max (Ideal.ofBits .f32 0x00000000#32 + _) 0 = _
  rw [Ideal.ofBits_zero_f32, zero_add]
  unfold hid
  refine congrArg (max · 0) (Finset.sum_congr rfl fun d _ => ?_)
  rw [shapeCast_1ab_ab_apply]

/-- The second product of a block of rows. -/
theorem out_apply (H : FVec Ideal ⟨2, ![n, 1024]⟩ .bf16) (B : FVec Ideal ⟨3, ![1, 1024, 512]⟩ .bf16)
    (h : (⟨3, ![1, 1024, 512]⟩ : Shape).ShapeCasts ⟨2, ![1024, 512]⟩) (r : Fin n) (j : Fin 512) :
    FloatOps.matmul (DotDims.plain n 1024 512) none H (shapeCast ⟨2, ![1024, 512]⟩ B h)
        (constant ⟨2, ![n, 512]⟩ .f32 0x00000000#32) (ix2 r j)
      = ∑ f, H (ix2 r f) * B (ix3 (0 : Fin 1) f j) := by
  rw [Ideal.matmul_plain_apply]
  show Ideal.ofBits .f32 0x00000000#32 + _ = _
  rw [Ideal.ofBits_zero_f32, zero_add]
  refine Finset.sum_congr rfl fun f _ => ?_
  rw [shapeCast_1ab_ab_apply]

/-- A masked block of rows through one expert, as the kernel writes it. -/
theorem expert_apply (a : IVec ⟨2, ![n, 1]⟩ 32) (w : BitVec 32) (X : FVec Ideal ⟨2, ![n, 512]⟩ .bf16)
    (A : FVec Ideal ⟨3, ![1, 512, 1024]⟩ .bf16) (B : FVec Ideal ⟨3, ![1, 1024, 512]⟩ .bf16)
    (h1 : (⟨2, ![n, 1]⟩ : Shape).ShapeCasts ⟨2, ![n, 1]⟩) (h2 : (⟨2, ![n, 1]⟩ : Shape).Broadcasts ⟨2, ![n, 512]⟩)
    (h3 : (⟨3, ![1, 512, 1024]⟩ : Shape).ShapeCasts ⟨2, ![512, 1024]⟩)
    (h4 : (⟨3, ![1, 1024, 512]⟩ : Shape).ShapeCasts ⟨2, ![1024, 512]⟩) (hb : FTy.bf16.bits < FTy.f32.bits) (r : Fin n) (j : Fin 512) :
    FloatOps.matmul (DotDims.plain n 1024 512) none
        (truncf .bf16 (maximumf (FloatOps.matmul (DotDims.plain n 512 1024) none
            (select (broadcastTo ⟨2, ![n, 512]⟩ (shapeCast ⟨2, ![n, 1]⟩ (cmpi .eq a (broadcast ⟨2, ![n, 1]⟩ w)) h1) h2) X
              (broadcast ⟨2, ![n, 512]⟩ (Scalar.ofBits .bf16 0x0000#16 : Ideal .bf16)))
            (shapeCast ⟨2, ![512, 1024]⟩ A h3) (constant ⟨2, ![n, 1024]⟩ .f32 0x00000000#32))
          (broadcast ⟨2, ![n, 1024]⟩ (Scalar.ofBits .f32 0x00000000#32 : Ideal .f32))) hb)
        (shapeCast ⟨2, ![1024, 512]⟩ B h4) (constant ⟨2, ![n, 512]⟩ .f32 0x00000000#32) (ix2 r j)
      = gate (a (ix2 r 0)) w (ffn (fun d => X (ix2 r d)) (fun d f => A (ix3 (0 : Fin 1) d f)) (fun f j => B (ix3 (0 : Fin 1) f j)) j) := by
  rw [out_apply, ← ffn_gate]
  unfold ffn
  refine Finset.sum_congr rfl fun f _ => ?_
  refine congrArg (· * _) ((hidden_apply _ A h3 r f).trans ?_)
  unfold hid
  refine congrArg (max · 0) (Finset.sum_congr rfl fun d _ => ?_)
  exact congrArg (· * _) (mask_apply a w X h1 h2 r d)

end Rows

/-! ## The kernel's expressions -/

/-- One token through the two experts a device holds, each masked by the token's assignment; `v` is the device's
    x coordinate. -/
def two (v a : BitVec 32) (x : Fin 512 → EReal) (A A' : FVec Ideal S1x512x1024 .bf16) (B B' : FVec Ideal S1x1024x512 .bf16)
    (j : Fin 512) : EReal :=
  gate a (Scalar.addi (Scalar.muli 2#32 v) 0#32) (ffn x (fun d f => A (ix3 (0 : Fin 1) d f)) (fun f j => B (ix3 (0 : Fin 1) f j)) j)
    + gate a (Scalar.addi (Scalar.muli 2#32 v) 1#32) (ffn x (fun d f => A' (ix3 (0 : Fin 1) d f)) (fun f j => B' (ix3 (0 : Fin 1) f j)) j)

/-- What a device computes on its own half of the rows. -/
theorem mine_apply (v : BitVec 32) (a : Vec Ideal S256x1 .i32) (X : Vec Ideal S256x512 .bf16)
    (A A' : Vec Ideal S1x512x1024 .bf16) (B B' : Vec Ideal S1x1024x512 .bf16) (r : Fin 256) (j : Fin 512) :
    k0_pay7 (F := Ideal) (k0_pay5 v a X A B) (k0_pay6 v a X A') B' (ix2 r j)
      = two v (a (ix2 r 0)) (fun d => X (ix2 r d)) A A' B B' j :=
  congrArg₂ (fun p q : EReal => p + q) (expert_apply a _ X A B _ _ _ _ _ r j) (expert_apply a _ X A' B' _ _ _ _ _ r j)

/-- What it sends back for the first 128 rows it was sent. -/
theorem sent0_apply (v : BitVec 32) (a : Vec Ideal S128x1 .i32) (X : Vec Ideal S128x512 .bf16)
    (A A' : Vec Ideal S1x512x1024 .bf16) (B B' : Vec Ideal S1x1024x512 .bf16) (r : Fin 128) (j : Fin 512) :
    k0_pay9 (F := Ideal) v a (k0_pay8 v a X A) B X A' B' (ix2 r j) = two v (a (ix2 r 0)) (fun d => X (ix2 r d)) A A' B B' j := by
  unfold k0_pay9
  rw [shapeCast_self]
  exact congrArg₂ (fun p q : EReal => p + q) (expert_apply a _ X A B _ _ _ _ _ r j) (expert_apply a _ X A' B' _ _ _ _ _ r j)

/-- What it sends back for the second 128 rows. -/
theorem sent1_apply (v : BitVec 32) (a : Vec Ideal S128x1 .i32) (X : Vec Ideal S128x512 .bf16)
    (A A' : Vec Ideal S1x512x1024 .bf16) (B B' : Vec Ideal S1x1024x512 .bf16) (r : Fin 128) (j : Fin 512) :
    k0_pay12 (F := Ideal) (k0_pay11 v a X (k0_pay10 v) A B X A' B') (ix2 r j) = two v (a (ix2 r 0)) (fun d => X (ix2 r d)) A A' B B' j := by
  unfold k0_pay12
  rw [shapeCast_self]
  exact congrArg₂ (fun p q : EReal => p + q) (expert_apply a _ X A B _ _ _ _ _ r j) (expert_apply a _ X A' B' _ _ _ _ _ r j)

/-- What it computes on the other half of its rows. -/
theorem other_apply (v : BitVec 32) (a : Vec Ideal S256x1 .i32) (X : Vec Ideal S256x512 .f32)
    (A A' : Vec Ideal S1x512x1024 .bf16) (B B' : Vec Ideal S1x1024x512 .bf16) (r : Fin 256) (j : Fin 512) :
    k0_pay16 (F := Ideal) v (k0_pay13 a) (k0_pay14 X) (Scalar.ofBits .bf16 0x0000#16) (k0_pay15 (F := Ideal) v a) A B A' B' (ix2 r j)
      = two v (a (ix2 r 0)) (fun d => X (ix2 r d)) A A' B B' j := by
  have h : k0_pay13 (F := Ideal) a = a := shapeCast_self a _
  unfold k0_pay15
  rw [h]
  exact congrArg₂ (fun p q : EReal => p + q) (expert_apply a _ (k0_pay14 X) A B _ _ _ _ _ r j)
    (expert_apply a _ (k0_pay14 X) A' B' _ _ _ _ _ r j)

/-- The first of the four sums stored into the result: the first 128 rows of the own half. -/
theorem sum17_apply (u : FVec Ideal S256x512 .f32) (w : Vec Ideal S128x512 .bf16) (r : Fin 128) (j : Fin 512) :
    k0_pay17 (F := Ideal) u w (ix2 r j) = (u (ix2 ⟨r.val, by have := r.isLt; omega⟩ j) : EReal) + w (ix2 r j) :=
  congrArg (fun p : EReal => p + w (ix2 r j)) (extractStridedSlice_apply _ u _ (ix2 r j) _ (fun a => match a with
    | ⟨0, _⟩ => (Nat.zero_add _).symm
    | ⟨1, _⟩ => (Nat.zero_add _).symm))
/-- The second: the other 128 rows of the own half. -/
theorem sum18_apply (u : FVec Ideal S256x512 .f32) (w : Vec Ideal S128x512 .bf16) (r : Fin 128) (j : Fin 512) :
    k0_pay18 (F := Ideal) u w (ix2 r j) = (u (ix2 ⟨128 + r.val, by have := r.isLt; omega⟩ j) : EReal) + w (ix2 r j) :=
  congrArg (fun p : EReal => p + w (ix2 r j)) (extractStridedSlice_apply _ u _ (ix2 r j) _ (fun a => match a with
    | ⟨0, _⟩ => rfl
    | ⟨1, _⟩ => (Nat.zero_add _).symm))
/-- The third: the first 128 rows of the other half. -/
theorem sum19_apply (u : FVec Ideal S256x512 .f32) (w : Vec Ideal S128x512 .bf16) (r : Fin 128) (j : Fin 512) :
    k0_pay19 (F := Ideal) u w (ix2 r j) = (u (ix2 ⟨r.val, by have := r.isLt; omega⟩ j) : EReal) + w (ix2 r j) :=
  sum17_apply u w r j
/-- The fourth: the last 128 rows of the other half. -/
theorem sum20_apply (u : FVec Ideal S256x512 .f32) (w : Vec Ideal S128x512 .bf16) (r : Fin 128) (j : Fin 512) :
    k0_pay20 (F := Ideal) u w (ix2 r j) = (u (ix2 ⟨128 + r.val, by have := r.isLt; omega⟩ j) : EReal) + w (ix2 r j) :=
  sum18_apply u w r j

end Cert.Moe

end
-- ==== Proof.Reference.lean ====
/- The reference's result at an index, over the extended reals: the token's own expert applied to it, or zero for a
   token assigned to none; and that as the sum of the four gated experts. -/
module

public import proofs.«01_k».proof.Proof.Values
public import proofs.«01_k».proof.Proof.Gen.ReferenceIdeal
public import Idealize.ShloMosaic.Lib.StackMember

@[expose] public section

noncomputable section

namespace Cert.Moe

open Idealize.ShloMosaic Idealize.ShloMosaic.ValueIdx
open scoped BigOperators

/-- One of the four experts' weights, flattened to a matrix. -/
theorem slab_apply {a b : Nat} (W : (⟨3, ![4, a, b]⟩ : Shape).Idx → EReal) (e : Fin 4)
    (hs : (⟨3, ![4, a, b]⟩ : Shape).Slices ![e.val, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![e.val, 0, 0] W hs) hc (ix2 p q) = W (ix3 e p q) := by
  rw [shapeCast_1ab_ab_apply]
  exact extractStridedSlice_apply _ W hs _ _ (fun ax => match ax with
    | ⟨0, _⟩ => rfl
    | ⟨1, _⟩ => (Nat.zero_add _).symm
    | ⟨2, _⟩ => (Nat.zero_add _).symm)

/-- All tokens through one expert, as the reference writes it. -/
theorem hostExpert_apply (x : FVec Ideal ⟨2, ![1024, 512]⟩ .f32) (W1 : FVec Ideal ⟨3, ![4, 512, 1024]⟩ .f32)
    (W2 : FVec Ideal ⟨3, ![4, 1024, 512]⟩ .f32) (e : Fin 4)
    (h1 : (⟨3, ![4, 512, 1024]⟩ : Shape).Slices ![e.val, 0, 0] ⟨3, ![1, 512, 1024]⟩)
    (h2 : (⟨3, ![1, 512, 1024]⟩ : Shape).ShapeCasts ⟨2, ![512, 1024]⟩)
    (h3 : (⟨3, ![4, 1024, 512]⟩ : Shape).Slices ![e.val, 0, 0] ⟨3, ![1, 1024, 512]⟩)
    (h4 : (⟨3, ![1, 1024, 512]⟩ : Shape).ShapeCasts ⟨2, ![1024, 512]⟩)
    (h5 : (⟨0, ![]⟩ : Shape).BroadcastsInDim ⟨2, ![1024, 1024]⟩ ![]) (r : Fin 1024) (j : Fin 512) :
    Host.dotGeneral (DotDims.plain 1024 1024 512) none
        (maximumf (Host.dotGeneral (DotDims.plain 1024 512 1024) none x
            (shapeCast ⟨2, ![512, 1024]⟩ (extractStridedSlice ⟨3, ![1, 512, 1024]⟩ ![e.val, 0, 0] W1 h1) h2))
          (broadcastInDim ⟨2, ![1024, 1024]⟩ ![] h5 (constant ⟨0, ![]⟩ .f32 0x00000000#32)))
        (shapeCast ⟨2, ![1024, 512]⟩ (extractStridedSlice ⟨3, ![1, 1024, 512]⟩ ![e.val, 0, 0] W2 h3) h4) (ix2 r j)
      = ffn (fun d => x (ix2 r d)) (fun d f => W1 (ix3 e d f)) (fun f j => W2 (ix3 e f j)) j := by
  rw [StackMember.dotGeneral_plain_apply]
  unfold ffn
  refine Finset.sum_congr rfl fun f _ => ?_
  rw [slab_apply]
  refine congrArg (· * _) ?_
  show max (Host.dotGeneral (DotDims.plain 1024 512 1024) none x
    (shapeCast ⟨2, ![512, 1024]⟩ (extractStridedSlice ⟨3, ![1, 512, 1024]⟩ ![e.val, 0, 0] W1 h1) h2) (ix2 r f)) (Ideal.ofBits .f32 0x00000000#32) = _
  rw [StackMember.dotGeneral_plain_apply, Ideal.ofBits_zero_f32]
  unfold hid
  refine congrArg (max · 0) (Finset.sum_congr rfl fun d _ => ?_)
  rw [slab_apply]

/-- The reference's choice between an expert's result and what was there before. -/
theorem hostPick_apply (a : IVec ⟨2, ![1024, 1]⟩ 32) (w : BitVec 32) (U V : FVec Ideal ⟨2, ![1024, 512]⟩ .f32)
    (h1 : (⟨2, ![1024, 1]⟩ : Shape).ShapeCasts ⟨1, ![1024]⟩) (h2 : (⟨0, ![]⟩ : Shape).BroadcastsInDim ⟨1, ![1024]⟩ ![])
    (h3 : (⟨1, ![1024]⟩ : Shape).BroadcastsInDim ⟨2, ![1024, 1]⟩ ![0])
    (h4 : (⟨2, ![1024, 1]⟩ : Shape).BroadcastsInDim ⟨2, ![1024, 512]⟩ ![0, 1]) (r : Fin 1024) (j : Fin 512) :
    select (broadcastInDim ⟨2, ![1024, 512]⟩ ![0, 1] h4 (broadcastInDim ⟨2, ![1024, 1]⟩ ![0] h3
        (cmpi .eq (shapeCast ⟨1, ![1024]⟩ a h1) (broadcastInDim ⟨1, ![1024]⟩ ![] h2 (constantI ⟨0, ![]⟩ 32 w))))) U V (ix2 r j)
      = if a (ix2 r 0) = w then U (ix2 r j) else V (ix2 r j) := by
  rw [select_apply, broadcastInDim_apply _ h4 _ (ix2 r j) (ix2 r (0 : Fin 1)) (fun ax => match ax with
      | ⟨0, _⟩ => rfl
      | ⟨1, _⟩ => rfl),
    broadcastInDim_apply _ h3 _ (ix2 r (0 : Fin 1)) (ix1 r) (fun ax => match ax with
      | ⟨0, _⟩ => rfl)]
  show Scalar.select (IntOp.cmpi .eq (shapeCast ⟨1, ![1024]⟩ a h1 (ix1 r)) w) _ _ = _
  rw [shapeCast_apply a h1 (ix1 r) (ix2 r (0 : Fin 1)) (by
    rw [Shape.rowMajor_val_two, Shape.rowMajor_val_one]
    show r.val * 1 + 0 = r.val
    omega)]
  exact select_eq _ _ _ _

/-- Choosing one of four by the assignment is the sum of the four gated values: the experts' numbers differ. -/
theorem pick_eq_sum (a : BitVec 32) (v0 v1 v2 v3 : EReal) :
    (if a = 3#32 then v3 else if a = 2#32 then v2 else if a = 1#32 then v1 else if a = 0#32 then v0 else 0)
      = (gate a 0#32 v0 + gate a 1#32 v1) + (gate a 2#32 v2 + gate a 3#32 v3) := by
  unfold gate
  by_cases h3 : a = 3#32
  · subst h3; simp
  by_cases h2 : a = 2#32
  · subst h2; simp
  by_cases h1 : a = 1#32
  · subst h1; simp
  by_cases h0 : a = 0#32
  · subst h0; simp
  simp [h0, h1, h2, h3]

end Cert.Moe

end
-- ==== Proof.Final.lean ====
/- The kernel's result, row by row, is the reference's.

   Row `R` of device `c` is row `512 x + R` of the whole arrays, `x` the device's x coordinate, and the device's two
   experts are experts `2 x` and `2 x + 1`. Every row of a device's result is the sum of what the device computed with
   its own two experts and of what a device with the other x coordinate computed, on the same row, with the other two. -/
module

public import proofs.«01_k».proof.Proof.Frames
public import proofs.«01_k».proof.Proof.Reference

@[expose] public section

noncomputable section

namespace Cert.Moe

open Cert.KernelIdeal Cert.KernelIdeal.Gen
open Idealize.ShloMosaic Idealize.ShloMosaic.TcCoe Idealize.ShloMosaic.ValueIdx
open Idealize.SL.Sem
open scoped BigOperators

/-! ## The common value -/

section Whole
variable (x : FVec Ideal ⟨2, ![1024, 512]⟩ .f32) (a : IVec ⟨2, ![1024, 1]⟩ 32)
  (W1 : FVec Ideal ⟨3, ![4, 512, 1024]⟩ .f32) (W2 : FVec Ideal ⟨3, ![4, 1024, 512]⟩ .f32)

/-- Row `R` through expert `e`. -/
def ex (e : Fin 4) (R : Fin 1024) (j : Fin 512) : EReal :=
  ffn (fun d => x (ix2 R d)) (fun d f => W1 (ix3 e d f)) (fun f j => W2 (ix3 e f j)) j

/-- Row `R` through the two experts of x coordinate `p`. -/
def duo (p : Fin 2) (R : Fin 1024) (j : Fin 512) : EReal :=
  gate (a (ix2 R 0)) (BitVec.ofNat 32 (2 * p.val)) (ex x W1 W2 ⟨2 * p.val, by have := p.isLt; omega⟩ R j)
    + gate (a (ix2 R 0)) (BitVec.ofNat 32 (2 * p.val + 1)) (ex x W1 W2 ⟨2 * p.val + 1, by have := p.isLt; omega⟩ R j)

/-- The whole result. -/
def moe : FVec Ideal ⟨2, ![1024, 512]⟩ .bf16 := fun i => duo x a W1 W2 0 (i 0) (i 1) + duo x a W1 W2 1 (i 0) (i 1)

/-- Either order of the two x coordinates gives the result. -/
theorem duo_add (p : Fin 2) (R : Fin 1024) (j : Fin 512) :
    duo x a W1 W2 p R j + duo x a W1 W2 ⟨1 - p.val, by omega⟩ R j = moe x a W1 W2 (ix2 R j) := by
  match p with
  | ⟨0, _⟩ => rfl
  | ⟨1, _⟩ => exact add_comm _ _

end Whole

/-! ## The places of a device's data in the whole arrays -/

/-- A device's x coordinate, -/
def px (c : Dev nD) : Fin 2 := ⟨c.val / 2, by have : c.val < 4 := c.isLt; omega⟩
/-- the whole arrays' row that is its row `R`, -/
def gr (c : Dev nD) (R : Fin 512) : Fin 1024 := ⟨512 * (c.val / 2) + R.val, by have : c.val < 4 := c.isLt; have := R.isLt; omega⟩
/-- and the expert that is its expert `k`. -/
def ge (c : Dev nD) (k : Fin 2) : Fin 4 := ⟨2 * (c.val / 2) + k.val, by have : c.val < 4 := c.isLt; have := k.isLt; omega⟩

/-- The expert numbers the kernel computes. -/
theorem word0 : ∀ c : Dev nD, Scalar.addi (Scalar.muli 2#32 (xw c)) 0#32 = BitVec.ofNat 32 (2 * (px c).val) := by decide +kernel
/-- The second expert number. -/
theorem word1 : ∀ c : Dev nD, Scalar.addi (Scalar.muli 2#32 (xw c)) 1#32 = BitVec.ofNat 32 (2 * (px c).val + 1) := by decide +kernel

/-- The rows of a device's own half, and of the other. -/
theorem offA : ∀ c : Dev nD, k0_off1 c = ![256 * (c.val % 2), 0] := by decide +kernel
/-- The same rows of x. -/
theorem offB : ∀ c : Dev nD, k0_off2 c = ![256 * (c.val % 2), 0] := by decide +kernel
/-- The rows of the other half, of the assignment, -/
theorem offC : ∀ c : Dev nD, k0_off4 c = ![256 * (1 - c.val % 2), 0] := by decide +kernel
/-- and of x. -/
theorem offD : ∀ c : Dev nD, k0_off5 c = ![256 * (1 - c.val % 2), 0] := by decide +kernel

/-- Row `r` of a device's own half, among its rows. -/
def rowA (c : Dev nD) (r : Fin 256) : Fin 512 := ⟨256 * (c.val % 2) + r.val, by have := r.isLt; omega⟩
/-- Row `r` of the other half. -/
def rowB (c : Dev nD) (r : Fin 256) : Fin 512 := ⟨256 * (1 - c.val % 2) + r.val, by have := r.isLt; omega⟩

/-- A device's coordinates among the blocks of an array of rows, and of a stack of experts. -/
abbrev mb2 (c : Dev nD) : (b : Fin 2) → Fin (Layout.cutSize [2, 2] ((![[0], []] : Fin 2 → List Nat) b)) :=
  Layout.meshBlock [2, 2] ![[0], []] c
abbrev mb3 (c : Dev nD) : (b : Fin 3) → Fin (Layout.cutSize [2, 2] ((![[0], [], []] : Fin 3 → List Nat) b)) :=
  Layout.meshBlock [2, 2] ![[0], [], []] c

/-- The block of rows is that of the x coordinate. -/
theorem mb2_val : ∀ c : Dev nD, (mb2 c 0).val = c.val / 2 ∧ (mb2 c 1).val = 0 := by decide +kernel
/-- So is the block of experts. -/
theorem mb3_val : ∀ c : Dev nD, (mb3 c 0).val = c.val / 2 ∧ (mb3 c 1).val = 0 ∧ (mb3 c 2).val = 0 := by decide +kernel

/-- A device's block of an array of rows, at an index. -/
theorem rows_apply {α : Type} {n : Nat} {kN : Fin 2 → Nat} (v : (⟨2, ![1024, n]⟩ : Shape).Idx → α) (c : Dev nD)
    (jb : (b : Fin 2) → Fin (kN b)) (h : Layout.TilesN ⟨2, ![512, n]⟩ ⟨2, ![1024, n]⟩ kN)
    (hj : (jb 0).val = c.val / 2 ∧ (jb 1).val = 0) (R : Fin 512) (d : Fin n) :
    Layout.blockN ⟨2, ![512, n]⟩ ⟨2, ![1024, n]⟩ jb v h (ix2 R d) = v (ix2 (gr c R) d) := by
  refine congrArg v (funext fun b => Fin.ext ?_)
  match b with
  | ⟨0, _⟩ =>
    show (jb 0).val * 512 + R.val = 512 * (c.val / 2) + R.val
    rw [hj.1, Nat.mul_comm]
  | ⟨1, _⟩ =>
    show (jb 1).val * n + d.val = d.val
    rw [hj.2, Nat.zero_mul, Nat.zero_add]

/-- A device's block of a stack of experts, at an index. -/
theorem stack_apply {α : Type} {p q : Nat} {kN : Fin 3 → Nat} (v : (⟨3, ![4, p, q]⟩ : Shape).Idx → α) (c : Dev nD)
    (jb : (b : Fin 3) → Fin (kN b)) (h : Layout.TilesN ⟨3, ![2, p, q]⟩ ⟨3, ![4, p, q]⟩ kN)
    (hj : (jb 0).val = c.val / 2 ∧ (jb 1).val = 0 ∧ (jb 2).val = 0) (k : Fin 2) (i : Fin p) (j : Fin q) :
    Layout.blockN ⟨3, ![2, p, q]⟩ ⟨3, ![4, p, q]⟩ jb v h (ix3 k i j) = v (ix3 (ge c k) i j) := by
  refine congrArg v (funext fun b => Fin.ext ?_)
  match b with
  | ⟨0, _⟩ =>
    show (jb 0).val * 2 + k.val = 2 * (c.val / 2) + k.val
    rw [hj.1, Nat.mul_comm]
  | ⟨1, _⟩ =>
    show (jb 1).val * p + i.val = i.val
    rw [hj.2.1, Nat.zero_mul, Nat.zero_add]
  | ⟨2, _⟩ =>
    show (jb 2).val * q + j.val = j.val
    rw [hj.2.2, Nat.zero_mul, Nat.zero_add]

/-- A window of rows at an index. -/
theorem part_rows {α : Type} {n l q : Nat} (X : (⟨2, ![n, q]⟩ : Shape).Idx → α) (off : Fin 2 → Nat) (p) (o : Nat)
    (ho : off = ![o, 0]) (r : Fin l) (d : Fin q) (R : Fin n) (hR : R.val = o + r.val) :
    part (Rect.unit (s := ⟨2, ![n, q]⟩) off (⟨2, ![l, q]⟩ : Shape).size p) X (ix2 r d) = X (ix2 R d) := by
  subst ho
  show X _ = X _
  congr 1
  funext b
  refine Fin.ext ?_
  match b with
  | ⟨0, _⟩ =>
    show o + 1 * r.val = R.val
    omega
  | ⟨1, _⟩ =>
    show 0 + 1 * d.val = d.val
    omega

/-! ## The other devices' places -/

/-- The device with the other x coordinate has the other experts, -/
theorem px_xn : ∀ c : Dev nD, px (xn c) = ⟨1 - (px c).val, by omega⟩ := by decide
/-- and so has the diagonal device. -/
theorem px_dg : ∀ c : Dev nD, px (dg c) = ⟨1 - (px c).val, by omega⟩ := by decide
/-- The diagonal device's partner is the device with the same x coordinate, -/
theorem xn_dg : ∀ c : Dev nD, xn (dg c) = yn c := by decide
/-- which has the same x coordinate -/
theorem yn_div : ∀ c : Dev nD, (yn c).val / 2 = c.val / 2 := by decide
/-- and the other y coordinate. -/
theorem yn_mod : ∀ c : Dev nD, (yn c).val % 2 = 1 - c.val % 2 := by decide
/-- A device's other half is, in the whole arrays, the own half of the device with the same x coordinate. -/
theorem gr_yn (c : Dev nD) (r : Fin 256) : gr (yn c) (rowA (yn c) r) = gr c (rowB c r) := by
  refine Fin.ext ?_
  show 512 * ((yn c).val / 2) + (256 * ((yn c).val % 2) + r.val) = 512 * (c.val / 2) + (256 * (1 - c.val % 2) + r.val)
  rw [yn_div, yn_mod]

/-- Every block of rows is one of the four. -/
theorem four_blocks : ∀ (c : Dev nD) (b : Fin 4), b = own c 0 ∨ b = own c 1 ∨ b = oth c 0 ∨ b = oth c 1 := by decide

/-! ## The blocks a device computes -/

section Device
variable (m : (ℓ : Loc nD τ sig) → Buf (Elt Ideal) ℓ)
variable (x : FVec Ideal ⟨2, ![1024, 512]⟩ .f32) (a : IVec ⟨2, ![1024, 1]⟩ 32)
  (W1 : FVec Ideal ⟨3, ![4, 512, 1024]⟩ .f32) (W2 : FVec Ideal ⟨3, ![4, 1024, 512]⟩ .f32)

/-- The devices hold their blocks of the whole arrays. -/
structure Holds : Prop where
  hx : ∀ (c : Dev nD) (R : Fin 512) (d : Fin 512), xIn m c (ix2 R d) = x (ix2 (gr c R) d)
  ha : ∀ (c : Dev nD) (R : Fin 512), agIn m c (ix2 R 0) = a (ix2 (gr c R) 0)
  h1 : ∀ (c : Dev nD) (k : Fin 2) (d : Fin 512) (f : Fin 1024), w1In m c (ix3 k d f) = W1 (ix3 (ge c k) d f)
  h2 : ∀ (c : Dev nD) (k : Fin 2) (f : Fin 1024) (j : Fin 512), w2In m c (ix3 k f j) = W2 (ix3 (ge c k) f j)

variable {m x a W1 W2} (H : Holds m x a W1 W2)
include H

/-- A device's own assignment rows are rows of the whole assignment; -/
theorem asV_apply (c : Dev nD) (r : Fin 256) : asV m c (ix2 r 0) = a (ix2 (gr c (rowA c r)) 0) := by
  rw [← H.ha]
  unfold asV k0_pay1
  rw [shapeCast_self, shapeCast_self]
  exact part_rows (agIn m c) _ _ _ (offA c) r 0 (rowA c r) rfl
/-- its own x rows, in the narrow format, rows of the whole x; -/
theorem xbV_apply (c : Dev nD) (r : Fin 256) (d : Fin 512) : xbV m c (ix2 r d) = x (ix2 (gr c (rowA c r)) d) := by
  rw [← H.hx]
  unfold xbV k0_pay2
  rw [shapeCast_self]
  exact part_rows (xIn m c) _ _ _ (offB c) r d (rowA c r) rfl
/-- the other half of its assignment too, -/
theorem aoV_apply (c : Dev nD) (r : Fin 256) : aoV m c (ix2 r 0) = a (ix2 (gr c (rowB c r)) 0) := by
  rw [← H.ha]
  exact part_rows (agIn m c) _ _ _ (offC c) r 0 (rowB c r) rfl
/-- and the other half of its x rows. -/
theorem xoV_apply (c : Dev nD) (r : Fin 256) (d : Fin 512) : xoV m c (ix2 r d) = x (ix2 (gr c (rowB c r)) d) := by
  rw [← H.hx]
  exact part_rows (xIn m c) _ _ _ (offD c) r d (rowB c r) rfl

/-- A device's W1 in the narrow format is its two experts' of the whole W1; -/
theorem w1V_apply (c : Dev nD) (k : Fin 2) (d : Fin 512) (f : Fin 1024) : w1V m c (ix3 k d f) = W1 (ix3 (ge c k) d f) := by
  rw [← H.h1]
  unfold w1V k0_pay3
  rw [shapeCast_self]
  rfl
/-- the same of W2. -/
theorem w2V_apply (c : Dev nD) (k : Fin 2) (f : Fin 1024) (j : Fin 512) : w2V m c (ix3 k f j) = W2 (ix3 (ge c k) f j) := by
  rw [← H.h2]
  unfold w2V k0_pay4
  rw [shapeCast_self]
  rfl
/-- Its first expert of W1, -/
theorem w1a_apply (c : Dev nD) (d : Fin 512) (f : Fin 1024) : w1a m c (ix3 (0 : Fin 1) d f) = W1 (ix3 (ge c 0) d f) := by
  rw [← w1V_apply H]
  show w1V m c _ = w1V m c _
  congr 1
  funext b
  refine Fin.ext ?_
  match b with
  | ⟨0, _⟩ => rfl
  | ⟨1, _⟩ => show 0 + 1 * d.val = d.val; omega
  | ⟨2, _⟩ => show 0 + 1 * f.val = f.val; omega
/-- its second, -/
theorem w1b_apply (c : Dev nD) (d : Fin 512) (f : Fin 1024) : w1b m c (ix3 (0 : Fin 1) d f) = W1 (ix3 (ge c 1) d f) := by
  rw [← w1V_apply H]
  show w1V m c _ = w1V m c _
  congr 1
  funext b
  refine Fin.ext ?_
  match b with
  | ⟨0, _⟩ => rfl
  | ⟨1, _⟩ => show 0 + 1 * d.val = d.val; omega
  | ⟨2, _⟩ => show 0 + 1 * f.val = f.val; omega
/-- its first expert of W2, -/
theorem w2a_apply (c : Dev nD) (f : Fin 1024) (j : Fin 512) : w2a m c (ix3 (0 : Fin 1) f j) = W2 (ix3 (ge c 0) f j) := by
  rw [← w2V_apply H]
  show w2V m c _ = w2V m c _
  congr 1
  funext b
  refine Fin.ext ?_
  match b with
  | ⟨0, _⟩ => rfl
  | ⟨1, _⟩ => show 0 + 1 * f.val = f.val; omega
  | ⟨2, _⟩ => show 0 + 1 * j.val = j.val; omega
/-- its second. -/
theorem w2b_apply (c : Dev nD) (f : Fin 1024) (j : Fin 512) : w2b m c (ix3 (0 : Fin 1) f j) = W2 (ix3 (ge c 1) f j) := by
  rw [← w2V_apply H]
  show w2V m c _ = w2V m c _
  congr 1
  funext b
  refine Fin.ext ?_
  match b with
  | ⟨0, _⟩ => rfl
  | ⟨1, _⟩ => show 0 + 1 * f.val = f.val; omega
  | ⟨2, _⟩ => show 0 + 1 * j.val = j.val; omega

/-- A device's two experts on row `R` of the whole array. -/
theorem two_eq (c : Dev nD) (R : Fin 1024) (w : BitVec 32) (y : Fin 512 → EReal) (j : Fin 512)
    (hw : w = a (ix2 R 0)) (hy : ∀ d, y d = x (ix2 R d)) :
    two (xw c) w y (w1a m c) (w1b m c) (w2a m c) (w2b m c) j = duo x a W1 W2 (px c) R j := by
  obtain rfl := hw
  obtain rfl : y = fun d => x (ix2 R d) := funext hy
  unfold two duo ex
  rw [word0, word1]
  simp only [w1a_apply H, w1b_apply H, w2a_apply H, w2b_apply H]
  rfl

/-- What a device computes on its own half. -/
theorem mineV_apply (c : Dev nD) (r : Fin 256) (j : Fin 512) :
    mineV m c (ix2 r j) = duo x a W1 W2 (px c) (gr c (rowA c r)) j :=
  (mine_apply _ _ _ _ _ _ _ r j).trans (two_eq H c _ _ _ j (asV_apply H c r) (fun d => xbV_apply H c r d))
/-- What it computes on the other half. -/
theorem othV_apply (c : Dev nD) (r : Fin 256) (j : Fin 512) :
    othV m c (ix2 r j) = duo x a W1 W2 (px c) (gr c (rowB c r)) j :=
  (other_apply _ _ _ _ _ _ _ r j).trans (two_eq H c _ _ _ j (aoV_apply H c r) (fun d => xoV_apply H c r d))
/-- What it sends back, first 128 rows: its experts on the rows of the device it got them from. -/
theorem cs0V_apply (c : Dev nD) (r : Fin 128) (j : Fin 512) :
    cs0V m c (ix2 r j) = duo x a W1 W2 (px c) (gr (xn c) (rowA (xn c) ⟨r.val, by have := r.isLt; omega⟩)) j :=
  (sent0_apply _ _ _ _ _ _ _ r j).trans (two_eq H c _ _ _ j
    ((part_rows (asV m (xn c)) _ _ 0 rfl r 0 ⟨r.val, by have := r.isLt; omega⟩ (Nat.zero_add _).symm).trans (asV_apply H (xn c) _))
    (fun d => (part_rows (xbV m (xn c)) _ _ 0 rfl r d ⟨r.val, by have := r.isLt; omega⟩ (Nat.zero_add _).symm).trans (xbV_apply H (xn c) _ d)))
/-- The second 128 rows. -/
theorem cs1V_apply (c : Dev nD) (r : Fin 128) (j : Fin 512) :
    cs1V m c (ix2 r j) = duo x a W1 W2 (px c) (gr (xn c) (rowA (xn c) ⟨128 + r.val, by have := r.isLt; omega⟩)) j :=
  (sent1_apply _ _ _ _ _ _ _ r j).trans (two_eq H c _ _ _ j
    ((part_rows (asV m (xn c)) _ _ 128 rfl r 0 ⟨128 + r.val, by have := r.isLt; omega⟩ rfl).trans (asV_apply H (xn c) _))
    (fun d => (part_rows (xbV m (xn c)) _ _ 128 rfl r d ⟨128 + r.val, by have := r.isLt; omega⟩ rfl).trans (xbV_apply H (xn c) _ d)))

/-! ## The whole result -/

/-- The kernel's result at an index. -/
theorem outV_apply (c : Dev nD) (R : Fin 512) (j : Fin 512) : outV m c (ix2 R j) = moe x a W1 W2 (ix2 (gr c R) j) := by
  obtain ⟨e1, e2, e3, e4⟩ := outV_blocks m c
  have key : ∀ (b : Fin 4) (r : Fin 128), R.val = 128 * b.val + r.val → outV m c (ix2 R j) = part (rQ b) (outV m c) (ix2 r j) :=
    fun b r h => (part_rows (outV m c) _ _ _ rfl r j R h).symm
  have hR : R.val = 128 * (R.val / 128) + R.val % 128 := by omega
  let r : Fin 128 := ⟨R.val % 128, Nat.mod_lt _ (by decide)⟩
  have hr : r.val = R.val % 128 := rfl
  rw [← duo_add x a W1 W2 (px c) (gr c R) j]
  rcases four_blocks c (⟨R.val / 128, by have := R.isLt; omega⟩ : Fin 4) with hb | hb | hb | hb
  · have hv : R.val / 128 = 2 * (c.val % 2) + 0 := congrArg Fin.val hb
    have hg : gr c (rowA c ⟨r.val, by have := r.isLt; omega⟩) = gr c R :=
      congrArg (gr c) (Fin.ext (show 256 * (c.val % 2) + r.val = R.val by omega))
    rw [key (own c 0) r (show R.val = 128 * (2 * (c.val % 2) + 0) + r.val by omega), e1, sum17_apply, mineV_apply H, cs0V_apply H, xn_xn, px_xn, hg]
  · have hv : R.val / 128 = 2 * (c.val % 2) + 1 := congrArg Fin.val hb
    have hg : gr c (rowA c ⟨128 + r.val, by have := r.isLt; omega⟩) = gr c R :=
      congrArg (gr c) (Fin.ext (show 256 * (c.val % 2) + (128 + r.val) = R.val by omega))
    rw [key (own c 1) r (show R.val = 128 * (2 * (c.val % 2) + 1) + r.val by omega), e2, sum18_apply, mineV_apply H, cs1V_apply H, xn_xn, px_xn, hg]
  · have hv : R.val / 128 = 2 * (1 - c.val % 2) + 0 := congrArg Fin.val hb
    have hg : gr c (rowB c ⟨r.val, by have := r.isLt; omega⟩) = gr c R :=
      congrArg (gr c) (Fin.ext (show 256 * (1 - c.val % 2) + r.val = R.val by omega))
    rw [key (oth c 0) r (show R.val = 128 * (2 * (1 - c.val % 2) + 0) + r.val by omega), e3, sum19_apply, othV_apply H, cs0V_apply H, xn_dg, px_dg, gr_yn, hg]
  · have hv : R.val / 128 = 2 * (1 - c.val % 2) + 1 := congrArg Fin.val hb
    have hg : gr c (rowB c ⟨128 + r.val, by have := r.isLt; omega⟩) = gr c R :=
      congrArg (gr c) (Fin.ext (show 256 * (1 - c.val % 2) + (128 + r.val) = R.val by omega))
    rw [key (oth c 1) r (show R.val = 128 * (2 * (1 - c.val % 2) + 1) + r.val by omega), e4, sum20_apply, othV_apply H, cs1V_apply H, xn_dg, px_dg, gr_yn, hg]

end Device

end Cert.Moe

namespace Cert.Proof

open Idealize.ShloMosaic Idealize.ShloMosaic.TcCoe Idealize.ShloMosaic.ValueIdx Idealize.SL.Sem Cert.Moe

attribute [local instance] Cert.KernelIdeal.Gen.facts Cert.ReferenceIdeal.Gen.facts

/-- **The kernel computes the reference's result**: each device's block of it. -/
theorem value : Cert.algebraic_KernelIdeal_ReferenceIdeal := by
  intro m g m' g' _ hm
  let c0 : Thread Cert.ReferenceIdeal.nD Cert.ReferenceIdeal.τ := ((0 : Dev Cert.ReferenceIdeal.nD).tc : Thread Cert.ReferenceIdeal.nD Cert.ReferenceIdeal.τ)
  let X : FVec Ideal ⟨2, ![1024, 512]⟩ .f32 := m' (c0.loc Cert.ReferenceIdeal.main_arg0)
  let A : IVec ⟨2, ![1024, 1]⟩ 32 := m' (c0.loc Cert.ReferenceIdeal.main_arg1)
  let W1 : FVec Ideal ⟨3, ![4, 512, 1024]⟩ .f32 := m' (c0.loc Cert.ReferenceIdeal.main_arg2)
  let W2 : FVec Ideal ⟨3, ![4, 1024, 512]⟩ .f32 := m' (c0.loc Cert.ReferenceIdeal.main_arg3)
  have H : Holds m X A W1 W2 :=
    ⟨fun c R d => (congrFun (hm c).1 _).trans (rows_apply X c (mb2 c) _ (mb2_val c) R d),
     fun c R => (congrFun ((agIn_eq m c).trans (hm c).2.1) _).trans (rows_apply A c (mb2 c) _ (mb2_val c) R 0),
     fun c k d f => (congrFun (hm c).2.2.1 _).trans (stack_apply W1 c (mb3 c) _ (mb3_val c) k d f),
     fun c k f j => (congrFun (hm c).2.2.2 _).trans (stack_apply W2 c (mb3 c) _ (mb3_val c) k f j)⟩
  refine ⟨moe X A W1 W2, ?_, ?_⟩
  · refine (θ_run Cert.KernelIdeal.defs _ _).mono (fun r h c => ⟨(h.1 c).1.trans ?_, (h.1 c).2⟩) (run_main (F := Ideal) m g)
    funext i
    obtain ⟨R, j, rfl⟩ : ∃ (R : Fin 512) (j : Fin 512), i = ix2 R j := ⟨i 0, i 1, eq_ix2 i⟩
    exact (outV_apply H c R j).trans (rows_apply (moe X A W1 W2) c (mb2 c) _ (mb2_val c) R j).symm
  · refine (θ_run Cert.ReferenceIdeal.defs _ _).mono (fun r h => ⟨(h 0).1.trans ?_, (h 0).2⟩) (Cert.ReferenceIdeal.Value.run (F := Ideal) m' g')
    funext i
    obtain ⟨R, j, rfl⟩ : ∃ (R : Fin 1024) (j : Fin 512), i = ix2 R j := ⟨i 0, i 1, eq_ix2 i⟩
    refine Eq.trans ?_ (pick_eq_sum (A (ix2 R 0)) (ex X W1 W2 0 R j) (ex X W1 W2 1 R j) (ex X W1 W2 2 R j) (ex X W1 W2 3 R j))
    refine (hostPick_apply A 3#32 _ _ _ _ _ _ R j).trans ?_
    refine congr (congrArg (ite (A (ix2 R 0) = 3#32)) (hostExpert_apply X W1 W2 3 _ _ _ _ _ R j)) ?_
    refine (hostPick_apply A 2#32 _ _ _ _ _ _ R j).trans ?_
    refine congr (congrArg (ite (A (ix2 R 0) = 2#32)) (hostExpert_apply X W1 W2 2 _ _ _ _ _ R j)) ?_
    refine (hostPick_apply A 1#32 _ _ _ _ _ _ R j).trans ?_
    refine congr (congrArg (ite (A (ix2 R 0) = 1#32)) (hostExpert_apply X W1 W2 1 _ _ _ _ _ R j)) ?_
    refine (hostPick_apply A 0#32 _ _ _ _ _ _ R j).trans ?_
    refine congr (congrArg (ite (A (ix2 R 0) = 0#32)) (hostExpert_apply X W1 W2 0 _ _ _ _ _ R j)) ?_
    exact Ideal.ofBits_zero_f32

end Cert.Proof

end
-- ==== Proof.lean ====
/- The proof of the certificate's claims, put together from the modules. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Final
public import Idealize.ShloMosaic.Adequacy
public import Idealize.ShloMosaic.Init

@[expose] public section

noncomputable section

namespace Cert.Proof

open Idealize.ShloMosaic Idealize.SL.Sem Cert.Kernel

/-- The certificate: the three frames, the idealization and the value. -/
theorem claim : Cert.Claim := ⟨Cert.Kernel.Gen.facts, Cert.KernelIdeal.Gen.facts, Cert.ReferenceIdeal.Gen.facts,
  frame_kernel, frame_kernelIdeal, frame_reference, trivial, value⟩

end Cert.Proof

end
